-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨2, ![1024, 256]⟩ ⟨2, ![8192, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1]⟩ ⟨2, ![8192, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![32, 256, 512]⟩ 0 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 512]⟩ ⟨2, ![8192, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x256 : Shape := ⟨2, ![1024, 256]⟩
abbrev S256x32 : Shape := ⟨2, ![256, 32]⟩
abbrev S1024x1 : Shape := ⟨2, ![1024, 1]⟩
abbrev S4x256x512 : Shape := ⟨3, ![4, 256, 512]⟩
abbrev S256x512 : Shape := ⟨2, ![256, 512]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_

variable [Facts]

def fn {F : FTy → Type} [FloatOps F] (main_arg0 : FVec F S1024x256 .f32) (main_arg1 : FVec F S256x32 .f32) (main_arg2 : IVec S1024x1 32) (main_arg3 : FVec F S4x256x512 .f32) (main_arg4 : FVec F S256x512 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  main_v8
-- ==== Pre_finite_ReferenceIdeal.lean ====
abbrev S8192x256 : Shape := ⟨2, ![8192, 256]⟩
abbrev S256x32 : Shape := ⟨2, ![256, 32]⟩
abbrev S8192x1 : Shape := ⟨2, ![8192, 1]⟩
abbrev S32x256x512 : Shape := ⟨3, ![32, 256, 512]⟩
abbrev S256x512 : Shape := ⟨2, ![256, 512]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x32 : S_.BroadcastsInDim S256x32 (![] : Fin 0 → Fin S256x32.rank)
  reducesTo_S256x32_S_d0_1 : S256x32.ReducesTo [0, 1] S_

variable [Facts]

def fn {F : FTy → Type} [FloatOps F] (main_arg0 : FVec F S8192x256 .f32) (main_arg1 : FVec F S256x32 .f32) (main_arg2 : IVec S8192x1 32) (main_arg3 : FVec F S32x256x512 .f32) (main_arg4 : FVec F S256x512 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S256x32 .f32 := Host.absf main_arg1
  let main_cst_0 : FVec F S_ .f32 := constant S_ .f32 0x7F800000#32
  let main_v5 : FVec F S256x32 .f32 := broadcastInDim S256x32 ![] bcast_S_S256x32 main_cst_0
  let main_v6 : IVec S256x32 1 := cmpf .olt main_v4 main_v5
  let main_c_1 : IVec S_ 1 := constantI S_ 1 1#1
  let main_v7 : IVec S_ 1 := (fun x v => Host.reduce IntOp.andi x v reducesTo_S256x32_S_d0_1 h_S_) main_v6 main_c_1
  let main_v8 : IVec S_ 1 := andi main_v3 main_v7
  main_v8
-- ==== Kernel.lean ====
abbrev S1024x256 : Shape := ⟨2, ![1024, 256]⟩
abbrev S256x32 : Shape := ⟨2, ![256, 32]⟩
abbrev S1024x1 : Shape := ⟨2, ![1024, 1]⟩
abbrev S4x256x512 : Shape := ⟨3, ![4, 256, 512]⟩
abbrev S256x512 : Shape := ⟨2, ![256, 512]⟩
abbrev S1024x512 : Shape := ⟨2, ![1024, 512]⟩
abbrev S8x4x256x512 : Shape := ⟨4, ![8, 4, 256, 512]⟩
abbrev S14 : Shape := ⟨1, ![14]⟩
abbrev S1x4x256x512 : Shape := ⟨4, ![1, 4, 256, 512]⟩
abbrev S_ : Shape := ⟨0, ![]⟩
abbrev S1 : Shape := ⟨1, ![1]⟩
abbrev S1x2x256x512 : Shape := ⟨4, ![1, 2, 256, 512]⟩
abbrev S2x256x512 : Shape := ⟨3, ![2, 256, 512]⟩
abbrev S1024x32 : Shape := ⟨2, ![1024, 32]⟩
abbrev S1024 : Shape := ⟨1, ![1024]⟩
abbrev S1x1x256x512 : Shape := ⟨4, ![1, 1, 256, 512]⟩

abbrev nBuf : Space → Nat
  | .hbm => 6
  | .vmem => 7
  | .smem => 0
  | _ => 0

abbrev bufTy : (tb : Table) → Fin (tcTables nBuf tb) → BufTy
  | .hbm, ⟨0, _⟩ => ⟨S1024x256, .f32⟩
  | .hbm, ⟨1, _⟩ => ⟨S256x32, .f32⟩
  | .hbm, ⟨2, _⟩ => ⟨S1024x1, .i32⟩
  | .hbm, ⟨3, _⟩ => ⟨S4x256x512, .f32⟩
  | .hbm, ⟨4, _⟩ => ⟨S256x512, .f32⟩
  | .hbm, ⟨5, _⟩ => ⟨S1024x512, .f32⟩
  | .local _ .vmem, ⟨0, _⟩ => ⟨S1024x256, .f32⟩
  | .local _ .vmem, ⟨1, _⟩ => ⟨S256x32, .f32⟩
  | .local _ .vmem, ⟨2, _⟩ => ⟨S1024x1, .i32⟩
  | .local _ .vmem, ⟨3, _⟩ => ⟨S4x256x512, .f32⟩
  | .local _ .vmem, ⟨4, _⟩ => ⟨S256x512, .f32⟩
  | .local _ .vmem, ⟨5, _⟩ => ⟨S1024x512, .f32⟩
  | .local _ .vmem, ⟨6, _⟩ => ⟨S8x4x256x512, .bf16⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_8 : BitVec 32 := 1#32
  let v13 : BitVec 32 := Scalar.muli v3 c1_i32_8
  let v14 : BitVec 32 := Scalar.addi c0_i32 v13
  v14.toNat
def k0_dev2 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_10 : BitVec 32 := 1#32
  let v15 : BitVec 32 := Scalar.muli v4 c1_i32_10
  let v16 : BitVec 32 := Scalar.addi c0_i32_11 v15
  v16.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_13 : BitVec 32 := 1#32
  let v17 : BitVec 32 := Scalar.muli v5 c1_i32_13
  let v18 : BitVec 32 := Scalar.addi c0_i32_14 v17
  v18.toNat
def k0_dev4 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_20 : BitVec 32 := 1#32
  let v19 : BitVec 32 := Scalar.muli v3 c1_i32_20
  let v20 : BitVec 32 := Scalar.addi c0_i32_21 v19
  v20.toNat
def k0_dev5 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_32 : BitVec 32 := 1#32
  let v29 : BitVec 32 := Scalar.muli v3 c1_i32_32
  let v30 : BitVec 32 := Scalar.addi c0_i32_33 v29
  v30.toNat
def k0_dev6 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_43 : BitVec 32 := 1#32
  let v39 : BitVec 32 := Scalar.muli v4 c1_i32_43
  let v40 : BitVec 32 := Scalar.addi c0_i32_44 v39
  v40.toNat
def k0_dev7 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_55 : BitVec 32 := 1#32
  let v49 : BitVec 32 := Scalar.muli v4 c1_i32_55
  let v50 : BitVec 32 := Scalar.addi c0_i32_56 v49
  v50.toNat
def k0_dev8 (d0 : Dev nD) : Nat :=
  let c0_i32_68 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_67 : BitVec 32 := 1#32
  let v59 : BitVec 32 := Scalar.muli v5 c1_i32_67
  let v60 : BitVec 32 := Scalar.addi c0_i32_68 v59
  v60.toNat
def k0_dev9 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_78 : BitVec 32 := 1#32
  let v69 : BitVec 32 := Scalar.muli v5 c1_i32_78
  let v70 : BitVec 32 := Scalar.addi c0_i32_79 v69
  v70.toNat
def k0_dev10 (d0 : Dev nD) : Nat :=
  let c0_i32_152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_151 : BitVec 32 := 1#32
  let v177 : BitVec 32 := Scalar.muli v4 c1_i32_151
  let v178 : BitVec 32 := Scalar.addi c0_i32_152 v177
  v178.toNat
def k0_dev11 (d0 : Dev nD) : Nat :=
  let c0_i32_186 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_185 : BitVec 32 := 1#32
  let v201 : BitVec 32 := Scalar.muli v4 c1_i32_185
  let v202 : BitVec 32 := Scalar.addi c0_i32_186 v201
  v202.toNat
def k0_dev12 (d0 : Dev nD) : Nat :=
  let c0_i32_250 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_249 : BitVec 32 := 1#32
  let v282 : BitVec 32 := Scalar.muli v5 c1_i32_249
  let v283 : BitVec 32 := Scalar.addi c0_i32_250 v282
  v283.toNat
def k0_dev13 (d0 : Dev nD) : Nat :=
  let c0_i32_284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_283 : BitVec 32 := 1#32
  let v306 : BitVec 32 := Scalar.muli v5 c1_i32_283
  let v307 : BitVec 32 := Scalar.addi c0_i32_284 v306
  v307.toNat
def k0_dev14 (d0 : Dev nD) : Nat :=
  let c0_i32_347 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_346 : BitVec 32 := 1#32
  let v387 : BitVec 32 := Scalar.muli v3 c1_i32_346
  let v388 : BitVec 32 := Scalar.addi c0_i32_347 v387
  v388.toNat
def k0_dev15 (d0 : Dev nD) : Nat :=
  let c0_i32_381 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_380 : BitVec 32 := 1#32
  let v411 : BitVec 32 := Scalar.muli v3 c1_i32_380
  let v412 : BitVec 32 := Scalar.addi c0_i32_381 v411
  v412.toNat
def k0_dev16 (d0 : Dev nD) : Nat :=
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_442 : BitVec 32 := 1#32
  let v492 : BitVec 32 := Scalar.muli v3 c1_i32_442
  let v493 : BitVec 32 := Scalar.addi c0_i32_443 v492
  v493.toNat
def k0_dev17 (d0 : Dev nD) : Nat :=
  let c0_i32_528 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_527 : BitVec 32 := 1#32
  let v587 : BitVec 32 := Scalar.muli v4 c1_i32_527
  let v588 : BitVec 32 := Scalar.addi c0_i32_528 v587
  v588.toNat
abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S8192x256 : Shape := ⟨2, ![8192, 256]⟩
abbrev S256x32 : Shape := ⟨2, ![256, 32]⟩
abbrev S8192x1 : Shape := ⟨2, ![8192, 1]⟩
abbrev S32x256x512 : Shape := ⟨3, ![32, 256, 512]⟩
abbrev S256x512 : Shape := ⟨2, ![256, 512]⟩
abbrev S8192x32 : Shape := ⟨2, ![8192, 32]⟩
abbrev S_ : Shape := ⟨0, ![]⟩
abbrev S8192 : Shape := ⟨1, ![8192]⟩
abbrev S8192x512 : Shape := ⟨2, ![8192, 512]⟩
abbrev S8192x2 : Shape := ⟨2, ![8192, 2]⟩
abbrev S2 : Shape := ⟨1, ![2]⟩
abbrev S1x2 : Shape := ⟨2, ![1, 2]⟩
abbrev S8192x256x512 : Shape := ⟨3, ![8192, 256, 512]⟩

abbrev nBuf : Space → Nat
  | .hbm => 51
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x32, .f32⟩
  | .hbm, ⟨2, _⟩ => ⟨S8192x1, .i32⟩
  | .hbm, ⟨3, _⟩ => ⟨S32x256x512, .f32⟩
  | .hbm, ⟨4, _⟩ => ⟨S256x512, .f32⟩
  | .hbm, ⟨5, _⟩ => ⟨S8192x32, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S8192x32, .f32⟩
  | .hbm, ⟨10, _⟩ => ⟨S8192x32, .f32⟩
  | .hbm, ⟨11, _⟩ => ⟨S8192x32, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x32, .f32⟩
  | .hbm, ⟨16, _⟩ => ⟨S8192x32, .f32⟩
  | .hbm, ⟨17, _⟩ => ⟨S8192x512, .f32⟩
  | .hbm, ⟨18, _⟩ => ⟨S8192, .i32⟩
  | .hbm, ⟨19, _⟩ => ⟨S8192, .i32⟩
  | .hbm, ⟨20, _⟩ => ⟨S8192x1, .i32⟩
  | .hbm, ⟨21, _⟩ => ⟨S8192x1, .i32⟩
  | .hbm, ⟨22, _⟩ => ⟨S8192x2, .i32⟩
  | .hbm, ⟨23, _⟩ => ⟨S2, .i32⟩
  | .hbm, ⟨24, _⟩ => ⟨S_, .i32⟩
  | .hbm, ⟨25, _⟩ => ⟨S8192x2, .i32⟩
  | .hbm, ⟨26, _⟩ => ⟨S8192x2, .i1⟩
  | .hbm, ⟨27, _⟩ => ⟨S1x2, .i32⟩
  | .hbm, ⟨28, _⟩ => ⟨S8192x2, .i32⟩
  | .hbm, ⟨29, _⟩ => ⟨S8192x2, .i1⟩
  | .hbm, ⟨30, _⟩ => ⟨S8192x2, .i1⟩
  | .hbm, ⟨31, _⟩ => ⟨S_, .i1⟩
  | .hbm, ⟨32, _⟩ => ⟨S8192, .i1⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192x1, .f32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S8192x256x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x512, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_c_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_2 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_4 : Ref sig .tc := ⟨.hbm, 38, rfl⟩
abbrev main_v27 : Ref sig .tc := ⟨.hbm, 39, rfl⟩
abbrev main_v28 : Ref sig .tc := ⟨.hbm, 40, rfl⟩
abbrev main_c_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Proof.Proto.lean ====
/-
The exchange of expert weights between the eight devices, as a protocol.

Device `c` keeps eight slots of four experts' bf16 weights; slot `s` ends up holding the weights device `c xor s`
started with. Slot 0 is its own. A slot travels in two halves (experts 0–1 and experts 2–3), each by its own copy:

  copy      source slot   landing slot   to the device at mask   experts
  0, 1      0             1              1                       first half, second half
  2, 3      0             3              3                       first half, second half
  4, 5      0             4              4                       first half, second half
  6, 7      1             2              3                       first half, second half
  8, 9      3             7              4                       first half, second half
  10, 11    4             5              1                       first half, second half
  12        7             6              1                       first half
  13        5             6              3                       second half

Who waits, who raises, how much, in what order, and what is handed over:

* barrier cell of `c`: the devices at masks 1, 3 and 4 raise it by one each, before any copy; `c` waits once, for 3. The
  device at mask `s` hands `c` the landing halves of its own slots that `c` will copy to at mask `s`.
* send cell `k` of `c`: raised by `c`'s copy `k` with the half slot's credit; `c` waits once and gets back the share of
  the source half that the copy read.
* receive cell `k` of `c`: raised by copy `k` of the device at mask `mask k` with the same credit; `c` waits once and
  gets its landing half, holding the weights device `c xor dstS k` started with.

Levels: send cells and the pipeline's own cells 0, barrier 1, receive cells 0–5 at 2, 6–11 at 3, 12–13 at 4: a device
waits on a receive cell only while the copies it still owes land on cells of a higher level.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Resources: the pipeline's copy and the exchange's (duties named by masks) -/

abbrev UB : Type := URounds (GSem nD τ sig) (Fin 8)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The devices and the table of copies -/

/-- The device at mask `s` from `c`. -/
def nbr (c : Dev nD) (s : Fin 8) : Dev nD := ⟨(c.val ^^^ s.val) % 8, Nat.mod_lt _ (by decide)⟩

theorem nbr_nbr : ∀ (c : Dev nD) (s : Fin 8), nbr (nbr c s) s = c := by decide +kernel

theorem nbr_zero : ∀ c : Dev nD, nbr c 0 = c := by decide +kernel

/-- The devices paired up along mask `s`. -/
def pairing (s : Fin 8) : Dev nD ≃ Dev nD := ⟨(nbr · s), (nbr · s), (nbr_nbr · s), (nbr_nbr · s)⟩

abbrev srcS : Fin 14 → Fin 8 := ![0, 0, 0, 0, 0, 0, 1, 1, 3, 3, 4, 4, 7, 5]
abbrev dstS : Fin 14 → Fin 8 := ![1, 1, 3, 3, 4, 4, 2, 2, 7, 7, 5, 5, 6, 6]
abbrev half : Fin 14 → Fin 2 := ![0, 1, 0, 1, 0, 1, 0, 1, 0, 1, 0, 1, 0, 1]
abbrev mask : Fin 14 → Fin 8 := ![1, 1, 3, 3, 4, 4, 3, 3, 4, 4, 1, 1, 1, 3]

/-- What a copy forwards is what belongs in the slot it lands in: slot `srcS k` here is slot `dstS k` there. -/
theorem nbr_route : ∀ (c : Dev nD) (k : Fin 14), nbr (nbr c (mask k)) (dstS k) = nbr c (srcS k) := by decide +kernel

/-- The device numbers the kernel computes, signals first, then copies. -/
theorem sig_devs : ∀ (c : Dev nD) (j : Fin 3),
    (![k0_dev1, k0_dev2, k0_dev3] : Fin 3 → Dev nD → Nat) j c = (nbr c ((![1, 3, 4] : Fin 3 → Fin 8) j)).val := by decide +kernel
theorem copy_devs : ∀ (c : Dev nD) (k : Fin 14),
    (![k0_dev4, k0_dev5, k0_dev6, k0_dev7, k0_dev8, k0_dev9, k0_dev10, k0_dev11, k0_dev12, k0_dev13, k0_dev14, k0_dev15,
      k0_dev16, k0_dev17] : Fin 14 → Dev nD → Nat) k c = (nbr c (mask k)).val := by decide +kernel

/-! ## Memrefs, regions, cells -/

/-- The scratch buffer of slots. -/
abbrev scr : Memref sig .tc .vmem S8x4x256x512 .bf16 := Memref.whole cc0_scratch0

theorem half_inb (s : Fin 8) (h : Fin 2) :
    ∀ a, (![s.val, 2 * h.val, 0, 0] : Fin 4 → Nat) a + S1x2x256x512.size a ≤ S8x4x256x512.size a := by
  revert s h; decide

/-- Half `h` of slot `s`. -/
abbrev halfRect (s : Fin 8) (h : Fin 2) : Rect S8x4x256x512 :=
  Rect.unit (s := S8x4x256x512) ![s.val, 2 * h.val, 0, 0] S1x2x256x512.size (half_inb s h)
abbrev slotV (s : Fin 8) (h : Fin 2) : Memref sig .tc .vmem S2x256x512 .bf16 :=
  (scr.slice (halfRect s h) (fun _ => rfl)).squeeze S2x256x512 squeezes_S1x2x256x512_S2x256x512

abbrev barS : Sem sig := (SemArray.scalar (sig.barrier 0 rfl) : Sems sig S_).sem
abbrev sendS (k : Fin 14) : DmaSem sig := ⟨6 + k.val, by have := k.isLt; show 6 + k.val < 34; omega⟩
abbrev recvS (k : Fin 14) : DmaSem sig := ⟨20 + k.val, by have := k.isLt; show 20 + k.val < 34; omega⟩

abbrev barCell (c : Dev nD) : GSem nD τ sig := ((c : Thread nD τ), .reg barS)
abbrev sendCell (c : Dev nD) (k : Fin 14) : GSem nD τ sig := ((c : Thread nD τ), .dma (sendS k))
abbrev recvCell (c : Dev nD) (k : Fin 14) : GSem nD τ sig := ((c : Thread nD τ), .dma (recvS k))

/-- The names of a device's DMA cells: send cells, then receive cells; and of all its cells, the barrier first. -/
abbrev KO : Type := Fin 14 ⊕ Fin 14
abbrev KC : Type := Unit ⊕ KO

abbrev osem : KO → SemLoc sig
  | .inl k => .dma (sendS k)
  | .inr k => .dma (recvS k)
abbrev csem : KC → SemLoc sig
  | .inl _ => .reg barS
  | .inr k => osem k
abbrev kcell (ck : Dev nD × KC) : GSem nD τ sig := ((ck.1 : Thread nD τ), csem ck.2)

/-- Which of the exchange's cells a semaphore is. -/
def role : SemLoc sig → Option KC
  | .reg _ => some (.inl ())
  | .dma q =>
    if h : q.val < 6 then none
    else if h' : q.val < 20 then some (.inr (.inl ⟨q.val - 6, by omega⟩))
    else some (.inr (.inr ⟨q.val - 20, by have : q.val < 34 := q.isLt; omega⟩))

theorem role_csem : ∀ k : KC, role (csem k) = some k := by decide

/-- One half slot's credit. -/
abbrev N : ℕ := (slotV 0 0).view.dmaCredit
theorem N_pos : 0 < N := View.dmaCredit_pos _ (by decide)

/-! ## Contents -/

/-- The launch contents of device `c`'s inputs, as the staging buffers hold them. -/
def xstg (c : Dev nD) : (cc0_stg0_0 : Ref sig .tc).ty.Contents (Elt F) := (win0_0.blk (0 : Fin 1)).view.read (Elt F) (m ((c : Thread nD τ).loc main_arg0))
def rstg (c : Dev nD) : (cc0_stg1_0 : Ref sig .tc).ty.Contents (Elt F) := (win0_1.blk (0 : Fin 1)).view.read (Elt F) (m ((c : Thread nD τ).loc main_arg1))
def istg (c : Dev nD) : (cc0_stg2_0 : Ref sig .tc).ty.Contents (Elt F) := (win0_2.blk (0 : Fin 1)).view.read (Elt F) (m ((c : Thread nD τ).loc main_arg2))
def estg (c : Dev nD) : (cc0_stg3_0 : Ref sig .tc).ty.Contents (Elt F) := (win0_3.blk (0 : Fin 1)).view.read (Elt F) (m ((c : Thread nD τ).loc main_arg3))
def wstg (c : Dev nD) : (cc0_stg4_0 : Ref sig .tc).ty.Contents (Elt F) := (win0_4.blk (0 : Fin 1)).view.read (Elt F) (m ((c : Thread nD τ).loc main_arg4))

/-- A position in the slots, moved to slot 0 of a one-slot array. -/
def unslot (i : S8x4x256x512.Idx) : S1x4x256x512.Idx
  | 0 => ⟨0, by decide⟩
  | 1 => i 1
  | 2 => i 2
  | 3 => i 3

/-- What the slots of device `c` hold when the exchange is over: slot `s` the bf16 weights of device `c xor s`. -/
def full (c : Dev nD) : Buf (Elt F) ((c : Thread nD τ).loc cc0_scratch0) :=
  fun i : S8x4x256x512.Idx => k0_pay2 (estg m (nbr c (i 0))) (unslot i)

/-- Half `h` of slot `s` on device `c`, held at share `q` with the contents `f`. -/
def region (c : Dev nD) (s : Fin 8) (h : Fin 2) (q : PosShare TreeShare) (f : Buf (Elt F) ((c : Thread nD τ).loc cc0_scratch0)) : sProp 𝕄 :=
  (slotV s h).view.loc (c : Thread nD τ) ↦[(slotV s h).view.set]{q} f

instance region_storable (c : Dev nD) (s : Fin 8) (h : Fin 2) (q : PosShare TreeShare) (f) :
    BI.Storable (upEmb : UEmb _ 𝕄) (region (F := F) c s h q f) := by unfold region; infer_instance

/-- The share of its source half that copy `k` reads. -/
def copyShare : Fin 14 → PosShare TreeShare := ![fullShare.left.left, fullShare.left.left, fullShare.left.right, fullShare.left.right,
  fullShare.right.left, fullShare.right.left, fullShare.left, fullShare.left, fullShare.left, fullShare.left,
  fullShare.left, fullShare.left, fullShare.left, fullShare.left]

/-! ## The schedule -/

/-- Landing half `k` of device `c`, at any contents. -/
def landing (c : Dev nD) (k : Fin 14) : sProp 𝕄 := iprop(∃ f, region c (dstS k) (half k) fullShare f)

/-- What the device at mask `s` hands `c` with its barrier signal: its landing halves for `c`'s copies at mask `s`. -/
def barPay (c : Dev nD) (s : Fin 8) : sProp 𝕄 := bigSep (Finset.univ.filter fun k => mask k = s) (landing (nbr c s))
def sendPay (c : Dev nD) (k : Fin 14) : sProp 𝕄 := region c (srcS k) (half k) (copyShare k) (full m c)
def recvPay (c : Dev nD) (k : Fin 14) : sProp 𝕄 := region c (dstS k) (half k) fullShare (full m c)

def dutiesOf : Option KC → Finset (Fin 8)
  | some (.inl _) => {1, 3, 4}
  | some (.inr _) => {0}
  | none => ∅
def amountOf : Option KC → ℕ
  | some (.inl _) => 1
  | _ => N
def payOf (c : Dev nD) (d : Fin 8) : Option KC → sProp 𝕄
  | some (.inl _) => barPay c d
  | some (.inr (.inl k)) => sendPay m c k
  | some (.inr (.inr k)) => recvPay m c k
  | none => iprop(emp)

/-- One round, round 0. -/
def exch : Rounds.Schedule (GSem nD τ sig) (Fin 8) 𝕄 where
  duties g r := if r = 0 ∧ g.1.2 = .tc then dutiesOf (role g.2) else ∅
  unitless _ := False
  amount g _ _ := amountOf (role g.2)
  payload g _ d := payOf m g.1.1 d (role g.2)
  amount_pos g _ _ _ := by
    unfold amountOf; split
    · exact Nat.one_pos
    · exact N_pos

instance landing_storable (c : Dev nD) (k : Fin 14) : BI.Storable (upEmb : UEmb _ 𝕄) (landing (F := F) c k) := by
  unfold landing; infer_instance

instance exch_payload_storable (g : GSem nD τ sig) (r : ℕ) (d : Fin 8) :
    BI.Storable (upEmb : UEmb _ 𝕄) ((exch (F := F) m).payload g r d) := by
  show BI.Storable upEmb (payOf m g.1.1 d (role g.2))
  unfold payOf barPay sendPay recvPay
  split <;> infer_instance

section Sched
variable (c : Dev nD) (k : KC)

theorem exch_duties : (exch (F := F) m).duties (kcell (c, k)) 0 = dutiesOf (some k) := by
  dsimp only [exch]; rw [if_pos ⟨rfl, rfl⟩, role_csem]
theorem exch_amount (d : Fin 8) : (exch (F := F) m).amount (kcell (c, k)) 0 d = amountOf (some k) := by
  dsimp only [exch]; rw [role_csem]
theorem exch_payload (d : Fin 8) : (exch (F := F) m).payload (kcell (c, k)) 0 d = payOf m c d (some k) := by
  dsimp only [exch]; rw [role_csem]
theorem exch_later (g : GSem nD τ sig) : ∀ r, 1 ≤ r → (exch (F := F) m).duties g r = ∅ :=
  fun r hr => by dsimp only [exch]; rw [if_neg fun h => by omega]
theorem exch_expect : (exch (F := F) m).expect (kcell (c, k)) 0 = if k = .inl () then 3 else N := by
  unfold Schedule.expect Schedule.amountOf
  rw [exch_duties, Finset.sum_congr rfl fun d _ => exch_amount m c k d]
  rcases k with ⟨⟩ | k
  · rfl
  · rw [if_neg (by simp)]; exact Finset.sum_singleton _ _
/-- All that a cell's round hands over. -/
theorem exch_rest : bigSep ((exch (F := F) m).duties (kcell (c, k)) 0 \ ∅) (fun d => (exch (F := F) m).payload (kcell (c, k)) 0 d)
    = bigSep (dutiesOf (some k)) fun d => payOf m c d (some k) := by
  rw [Finset.sdiff_empty, exch_duties]; exact bigSep_congr fun d _ => exch_payload m c k d

end Sched

/-! ## What each device owes; the levels -/

/-- What device `c` owes while the copies in `l` are still to be issued, the first of them the last summand. -/
def owedL (c : Dev nD) : List (Fin 14) → CellTallies nD τ sig Unit
  | [] => 0
  | k :: l => owedL c l + tallyAt (recvCell (nbr c (mask k)) k) () N

abbrev allCopies : List (Fin 14) := List.finRange 14

/-- At launch: every copy, and the three barrier signals, the first of them the last summand. -/
def owed0 (c : Dev nD) : CellTallies nD τ sig Unit :=
  owedL c allCopies + tallyAt (barCell (nbr c 4)) () 1 + tallyAt (barCell (nbr c 3)) () 1 + tallyAt (barCell (nbr c 1)) () 1

def recvLevel (k : Fin 14) : ℕ := if k.val < 6 then 2 else if k.val < 12 then 3 else 4
def levelOf : Option KC → ℕ
  | some (.inl _) => 1
  | some (.inr (.inr k)) => recvLevel k
  | _ => 0

def L (g : GSem nD τ sig) : Finset Unit := if g.1.2 = .tc then {()} else ∅
def lv (g : GSem nD τ sig) (_ : Unit) : ℕ := levelOf (role g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : KC) (u : Unit) : lv (kcell (c, k)) u = levelOf (some k) := by unfold lv; rw [role_csem]

theorem owedL_pos {c : Dev nD} {g : GSem nD τ sig} {u : Unit} : ∀ {l : List (Fin 14)}, 0 < owedL c l g u →
    ∃ k ∈ l, g = recvCell (nbr c (mask k)) k
  | [], h => absurd h (Nat.lt_irrefl 0)
  | k :: l, h => by
    unfold owedL at h
    rw [Pi.add_apply, Finsupp.add_apply] at h
    rcases Nat.add_pos_iff_pos_or_pos.mp h with h | h
    · obtain ⟨k', hk, hg⟩ := owedL_pos h
      exact ⟨k', List.mem_cons_of_mem _ hk, hg⟩
    · exact ⟨k, List.mem_cons_self, (Pipeline.tallyAt_pos h).1⟩

theorem recvLevel_pos : ∀ k : Fin 14, 1 ≤ recvLevel k := by decide

theorem owed0_pos {c : Dev nD} {g : GSem nD τ sig} {u : Unit} (h : 0 < owed0 c g u) :
    ∃ (d : Dev nD) (k : KC), g = kcell (d, k) ∧ 1 ≤ levelOf (some k) := by
  unfold owed0 at h
  rw [Pi.add_apply, Finsupp.add_apply, Pi.add_apply, Finsupp.add_apply, Pi.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨k, -, hg⟩ := owedL_pos h
        exact ⟨_, .inr (.inr k), hg, recvLevel_pos k⟩
      · exact ⟨_, .inl (), (Pipeline.tallyAt_pos h).1, le_refl _⟩
    · exact ⟨_, .inl (), (Pipeline.tallyAt_pos h).1, le_refl _⟩
  · exact ⟨_, .inl (), (Pipeline.tallyAt_pos h).1, le_refl _⟩

/-- A wait is safe below every cell the device still owes. -/
theorem mayWait_copies (c : Dev nD) (sm : SemLoc sig) (l : List (Fin 14)) (h : ∀ k ∈ l, levelOf (role sm) < recvLevel k) :
    (levAts L lv : sProp 𝕄) ⊢ MayWait (c : Thread nD τ) sm () (owedL c l) :=
  MayOwe.of_cut (L := L) (lev := lv) (levelOf (role sm))
    (fun p hp => by rw [Finset.mem_singleton.mp hp, L_tc]; exact Finset.mem_singleton_self _)
    (fun g u hg => by obtain ⟨k, -, rfl⟩ := owedL_pos hg; exact Finset.mem_singleton_self _)
    (fun p hp => by rw [Finset.mem_singleton.mp hp]; exact le_refl _)
    (fun g u hg => by obtain ⟨k, hk, rfl⟩ := owedL_pos hg; exact lt_of_lt_of_eq (h k hk) (lv_kcell _ (.inr (.inr k)) u).symm)

/-- A wait at level 0 is safe at launch. -/
theorem mayWait_launch (c : Dev nD) (sm : SemLoc sig) (h : levelOf (role sm) = 0) :
    (levAts L lv : sProp 𝕄) ⊢ MayWait (c : Thread nD τ) sm () (owed0 c) :=
  MayOwe.of_cut (L := L) (lev := lv) 0
    (fun p hp => by rw [Finset.mem_singleton.mp hp, L_tc]; exact Finset.mem_singleton_self _)
    (fun g u hg => by obtain ⟨d, k, rfl, -⟩ := owed0_pos hg; exact Finset.mem_singleton_self _)
    (fun p hp => by rw [Finset.mem_singleton.mp hp]; exact le_of_eq h)
    (fun g u hg => by obtain ⟨d, k, rfl, hk⟩ := owed0_pos hg; exact lt_of_lt_of_eq hk (lv_kcell _ k u).symm)

/-! ## The records every device shares -/

/-- Every cell's invariant, every cell at round 0 or later, and the levels. -/
def records (K : Dev nD × KC → ℕ) : sProp 𝕄 :=
  iprop((bigSep Finset.univ fun ck : Dev nD × KC => cellInv ER (exch m) (K ck) (kcell ck))
    ∗ bigSep Finset.univ fun ck : Dev nD × KC => reached ER (kcell ck) 0)

instance records_persistent (K : Dev nD × KC → ℕ) : BI.Persistent (records m K) := by unfold records; infer_instance

theorem inv_at (K : Dev nD × KC → ℕ) (ck : Dev nD × KC) : records m K ⊢ cellInv ER (exch m) (K ck) (kcell ck) := by
  unfold records; iintro ⟨H, -⟩
  iapply (show (bigSep Finset.univ fun ck : Dev nD × KC => (cellInv ER (exch m) (K ck) (kcell ck) : sProp 𝕄)) ⊢ _ from bigSep_elim (Finset.mem_univ ck))
  iexact H
theorem reached_at (K : Dev nD × KC → ℕ) (ck : Dev nD × KC) : records m K ⊢ (reached ER (kcell ck) 0 : sProp 𝕄) := by
  unfold records; iintro ⟨-, H⟩
  iapply (show (bigSep Finset.univ fun ck : Dev nD × KC => (reached ER (kcell ck) 0 : sProp 𝕄)) ⊢ _ from bigSep_elim (Finset.mem_univ ck))
  iexact H

end Cert.Moe

end
-- ==== Proof.Regions.lean ====
/-
The slots cut into half slots: which elements a half has, that the sixteen halves are the whole buffer, how the share of
a half is divided between a copy and the loads, and what a copy leaves where it lands.
-/
module

public import proofs.«01_k».proof.Proof.Proto
public import Idealize.ShloMosaic.Lib.Ring

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Which elements a half slot has -/

theorem slot_set (s : Fin 8) (h : Fin 2) : (slotV s h).view.set = (halfRect s h).set :=
  (View.set_reshape _ _).trans (View.set_slice_whole cc0_scratch0 (halfRect s h))

theorem mem_half (s : Fin 8) (h : Fin 2) (i : S8x4x256x512.Idx) :
    i ∈ (halfRect s h).set ↔ (i 0).val = s.val ∧ (i 1).val / 2 = h.val := by
  rw [Rect.mem_set_unit]
  have h1 : (i 1).val < 4 := (i 1).isLt
  have h2 : (i 2).val < 256 := (i 2).isLt
  have h3 : (i 3).val < 512 := (i 3).isLt
  constructor
  · intro H
    have H0 : s.val ≤ (i 0).val ∧ (i 0).val < s.val + 1 := H 0
    have H1 : 2 * h.val ≤ (i 1).val ∧ (i 1).val < 2 * h.val + 2 := H 1
    omega
  · rintro ⟨H0, H1⟩ a
    fin_cases a
    · show s.val ≤ (i 0).val ∧ (i 0).val < s.val + 1; omega
    · show 2 * h.val ≤ (i 1).val ∧ (i 1).val < 2 * h.val + 2; omega
    · show 0 ≤ (i 2).val ∧ (i 2).val < 0 + 256; omega
    · show 0 ≤ (i 3).val ∧ (i 3).val < 0 + 512; omega

/-- The elements of half `p.2` of slot `p.1`. -/
abbrev halfSet (p : Fin 8 × Fin 2) : Finset (S8x4x256x512.Idx) := (slotV p.1 p.2).view.set

theorem half_disjoint (p p' : Fin 8 × Fin 2) (h : p ≠ p') : Disjoint (halfSet p) (halfSet p') := by
  rw [Finset.disjoint_left]
  intro i hi hi'
  rw [halfSet, slot_set, mem_half] at hi hi'
  exact h (Prod.ext (Fin.ext (hi.1.symm.trans hi'.1)) (Fin.ext (hi.2.symm.trans hi'.2)))

theorem half_cover : (Finset.univ.biUnion halfSet : Finset (S8x4x256x512.Idx)) = Finset.univ := by
  ext i
  simp only [Finset.mem_biUnion, Finset.mem_univ, true_and, iff_true]
  have h0 : (i 0).val < 8 := (i 0).isLt
  have h1 : (i 1).val < 4 := (i 1).isLt
  refine ⟨(⟨(i 0).val, h0⟩, ⟨(i 1).val / 2, by omega⟩), ?_⟩
  rw [halfSet, slot_set, mem_half]
  exact ⟨rfl, rfl⟩

/-- The whole buffer is its sixteen halves. -/
theorem slots_split (c : Dev nD) (q : PosShare TreeShare) (f : Buf (Elt F) ((c : Thread nD τ).loc cc0_scratch0)) :
    (((c : Thread nD τ).loc cc0_scratch0) ↦{q} f : sProp 𝕄) = bigSep Finset.univ fun p : Fin 8 × Fin 2 => region c p.1 p.2 q f :=
  Ring.pointsTo_blocks (ℓ := (c : Thread nD τ).loc cc0_scratch0) halfSet half_disjoint half_cover f

/-! ## The halves, named by the copies that land in them -/

/-- Slot 0's halves, and the landing half of each copy. -/
def placeOf : Fin 2 ⊕ Fin 14 → Fin 8 × Fin 2
  | .inl h => (0, h)
  | .inr k => (dstS k, half k)
theorem placeOf_bijective : Function.Bijective placeOf := by decide +kernel
def place : Fin 2 ⊕ Fin 14 ≃ Fin 8 × Fin 2 := Equiv.ofBijective placeOf placeOf_bijective

theorem slots_named (c : Dev nD) (Φ : Fin 8 × Fin 2 → sProp 𝕄) :
    bigSep Finset.univ Φ = iprop((Φ (0, 0) ∗ Φ (0, 1)) ∗ bigSep Finset.univ fun k : Fin 14 => Φ (dstS k, half k)) := by
  rw [bigSep_univ_equiv place Φ, bigSep_univ_sum, bigSep_univ_eq_bigSepL [(0 : Fin 2), 1] (by decide) (by decide), bigSepL_cons_cons, bigSepL_singleton]
  rfl

/-! ## Shares -/

theorem region_share (c : Dev nD) (s : Fin 8) (h : Fin 2) (q : PosShare TreeShare) (f) :
    (region c s h q f : sProp 𝕄) ⊣⊢ iprop(region c s h q.left f ∗ region c s h q.right f) := by
  unfold region; exact pointsTo_share (PosShare.mem_left_op_right q)

theorem region_congr (c : Dev nD) (s : Fin 8) (h : Fin 2) (q : PosShare TreeShare) (f g : Buf (Elt F) ((c : Thread nD τ).loc cc0_scratch0))
    (hfg : ∀ i ∈ (slotV s h).view.set, f i = g i) : (region c s h q f : sProp 𝕄) = region c s h q g := by
  unfold region; exact pointsTo_congr hfg

/-! ## What is where -/

theorem full_eq {c c' : Dev nD} {i i' : S8x4x256x512.Idx} (h0 : nbr c (i 0) = nbr c' (i' 0)) (h1 : unslot i = unslot i') :
    full m c i = full m c' i' := by
  unfold full; rw [h0, h1]

/-- An element of a half slot, by its slot and its place in the slot. -/
theorem slot_emb (s : Fin 8) (h : Fin 2) (x : S2x256x512.Idx) :
    (slotV s h).view.emb x = (halfRect s h).emb (Shape.reshapeEquiv squeezes_S1x2x256x512_S2x256x512.numel_eq x) := rfl
theorem half_emb_zero (s : Fin 8) (h : Fin 2) (y : S1x2x256x512.Idx) : (halfRect s h).emb y 0 = s := Fin.ext (by
  have y0 : (y 0).val < 1 := (y 0).isLt
  rw [Rect.emb_apply]; show s.val + 1 * (y 0).val = s.val; omega)
theorem half_emb_unslot (s s' : Fin 8) (h : Fin 2) (y : S1x2x256x512.Idx) :
    unslot ((halfRect s h).emb y) = unslot ((halfRect s' h).emb y) := funext fun a => by
  fin_cases a
  · rfl
  all_goals
    apply Fin.ext
    simp only [unslot]
    rw [Rect.emb_apply, Rect.emb_apply]
    rfl

/-- A copy's landing half holds, once the copy has landed, what belongs there. -/
theorem landed_eq (c : Dev nD) (k : Fin 14) (fd : Buf (Elt F) ((nbr c (mask k) : Thread nD τ).loc cc0_scratch0))
    (i : S8x4x256x512.Idx) (hi : i ∈ (slotV (dstS k) (half k)).view.set) :
    (slotV (dstS k) (half k)).view.write (Elt F) fd ((slotV (srcS k) (half k)).view.read (Elt F) (full m c)) Finset.univ i
      = full m (nbr c (mask k)) i := by
  obtain ⟨x, -, rfl⟩ := Finset.mem_map.mp hi
  rw [View.write_emb_of_mem _ _ (Finset.mem_univ x), View.read_apply]
  show full m c ((slotV (srcS k) (half k)).view.emb x) = _
  rw [slot_emb, slot_emb]
  generalize Shape.reshapeEquiv squeezes_S1x2x256x512_S2x256x512.numel_eq x = y
  exact full_eq m (by rw [half_emb_zero, half_emb_zero]; exact (nbr_route c k).symm) (half_emb_unslot _ _ _ y)

/-- Slot 0 after the device's own weights are stored there. -/
theorem own_eq (c : Dev nD) (f : Buf (Elt F) ((c : Thread nD τ).loc cc0_scratch0)) (h : Fin 2)
    (i : S8x4x256x512.Idx) (hi : i ∈ (slotV 0 h).view.set) :
    (scr.access (Rect.unit (s := S8x4x256x512) ![0, 0, 0, 0] S1x4x256x512.size inb_S8x4x256x512_S1x4x256x512_0_0_0_0)).write (Elt F) f
      (k0_pay2 (estg m c)) Finset.univ i = full m c i := by
  rw [slot_set, mem_half] at hi
  have h0 : (i 0).val = 0 := hi.1
  have e : i = (scr.access (Rect.unit (s := S8x4x256x512) ![0, 0, 0, 0] S1x4x256x512.size inb_S8x4x256x512_S1x4x256x512_0_0_0_0)).emb (unslot i) := by
    refine funext fun a => Fin.ext ?_
    show (i a).val = ((Rect.unit (s := S8x4x256x512) ![0, 0, 0, 0] S1x4x256x512.size inb_S8x4x256x512_S1x4x256x512_0_0_0_0).emb (unslot i) a).val
    rw [Rect.emb_apply]
    fin_cases a
    · show (i 0).val = 0 + 1 * 0; omega
    · show (i 1).val = 0 + 1 * (i 1).val; omega
    · show (i 2).val = 0 + 1 * (i 2).val; omega
    · show (i 3).val = 0 + 1 * (i 3).val; omega
  have hc : nbr c (i 0) = c := by
    rw [show i 0 = (0 : Fin 8) from Fin.ext h0]; exact nbr_zero c
  rw [show full m c i = k0_pay2 (estg m c) (unslot i) from by unfold full; rw [hc]]
  conv_lhs => rw [e]
  rw [View.write_emb_of_mem _ _ (Finset.mem_univ _)]
  rfl

theorem chunk_inb (s : Fin 8) (j : Fin 4) :
    ∀ a, (![s.val, j.val, 0, 0] : Fin 4 → Nat) a + S1x1x256x512.size a ≤ S8x4x256x512.size a := by
  revert s j; decide

/-- Expert `j` of slot `s`. -/
abbrev chunkRect (s : Fin 8) (j : Fin 4) : Rect S8x4x256x512 :=
  Rect.unit (s := S8x4x256x512) ![s.val, j.val, 0, 0] S1x1x256x512.size (chunk_inb s j)

/-- What a load of it reads once the half is there. -/
def chunk (c : Dev nD) (s : Fin 8) (j : Fin 4) : S1x1x256x512.Idx → Elt F .bf16 :=
  scr.view.readAt (Elt F) (chunkRect s j).toLoadRect (full m c)

theorem chunk_subset (s : Fin 8) (j : Fin 4) (h : Fin 2) (hj : j.val / 2 = h.val) :
    scr.view.setOn (chunkRect s j).toLoadRect.set ⊆ (slotV s h).view.set := by
  rw [slot_set]
  intro i hi
  have hi' : i ∈ (chunkRect s j).set := by
    obtain ⟨x, hx, rfl⟩ := Finset.mem_map.mp hi
    exact hx
  rw [Rect.mem_set_unit] at hi'
  rw [mem_half]
  have H0 : s.val ≤ (i 0).val ∧ (i 0).val < s.val + 1 := hi' 0
  have H1 : j.val ≤ (i 1).val ∧ (i 1).val < j.val + 1 := hi' 1
  omega

end Cert.Moe

end
-- ==== Proof.Steps.lean ====
/-
One step of the exchange at a time: what each of the kernel's signals, waits, copies and loads takes and leaves, for any
device and any copy of the table.
-/
module

public import proofs.«01_k».proof.Proof.Regions

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KC → ℕ) (c : Dev nD)

abbrev 𝒱₀ : Variants := Variants.none

/-- The records and the levels. -/
def shared : sProp 𝕄 := iprop(records m K ∗ levAts L lv)
instance shared_persistent : BI.Persistent (shared m K) := by unfold shared; infer_instance

theorem shared_inv (ck : Dev nD × KC) : shared m K ⊢ cellInv ER (exch m) (K ck) (kcell ck) := by
  unfold shared; iintro ⟨H, -⟩; iapply (inv_at m K ck); iexact H
theorem shared_reached (ck : Dev nD × KC) : shared m K ⊢ (reached ER (kcell ck) 0 : sProp 𝕄) := by
  unfold shared; iintro ⟨H, -⟩; iapply (reached_at m K ck); iexact H
theorem shared_wait (sm : SemLoc sig) (l : List (Fin 14)) (h : ∀ k ∈ l, levelOf (role sm) < recvLevel k) :
    shared m K ⊢ (MayWait (c : Thread nD τ) sm () (owedL c l) : sProp 𝕄) := by
  unfold shared; iintro ⟨-, H⟩; iapply (mayWait_copies c sm l h); iexact H

/-- The copies still to be issued when `n` have been. -/
def left (n : ℕ) : List (Fin 14) := allCopies.drop n
theorem left_cons : ∀ k : Fin 14, left k.val = k :: left (k.val + 1) := by decide

/-- Device `c` has issued its first `n` copies and owes the others, whatever waits it has made. -/
def owing (n : ℕ) : sProp 𝕄 := iprop(∃ W, owes (c : Thread nD τ) (owedL c (left n)) W)

/-! ## The states of a copy -/

/-- Before device `c` issues copy `k`: its positions at the two cells, the two duties the copy pays, the credit for the
    copy `c` is to receive. -/
def kit (k : Fin 14) : sProp 𝕄 :=
  iprop(atPos ER (sendCell c k) 0 ∅ 0 ∗ atPos ER (recvCell c k) 0 ∅ 0 ∗ dutyTok ER (sendCell c k) 0 0
    ∗ dutyTok ER (recvCell (nbr c (mask k)) k) 0 0 ∗ cred (tallyAt (recvCell c k) () N))
/-- Issued, neither wait made. -/
def issued (k : Fin 14) : sProp 𝕄 :=
  iprop(atPos ER (sendCell c k) 0 ∅ 0 ∗ atPos ER (recvCell c k) 0 ∅ 0 ∗ cred (tallyAt (recvCell c k) () N) ∗ cred (tallyAt (sendCell c k) () N))
/-- The wait on the send cell made, the cell closed. -/
def sent (k : Fin 14) : sProp 𝕄 :=
  iprop(semVal (sendCell c k) 0 ∗ atPos ER (recvCell c k) 0 ∅ 0 ∗ cred (tallyAt (recvCell c k) () N))
/-- Both waits made, both cells closed. -/
def finished (k : Fin 14) : sProp 𝕄 := iprop(semVal (sendCell c k) 0 ∗ semVal (recvCell c k) 0)

/-! ## The kernel's semaphores by name -/

theorem send_sem (k : Fin 14) (h : ∀ a, (![k.val] : Fin 1 → Nat) a + S1.size a ≤ S14.size a) :
    ((cc0_scratch1.slice (Rect.unit (s := S14) ![k.val] S1.size h)).squeeze S_ squeezes_S1_S_).sem = sendS k := by
  revert h; revert k; decide +kernel
theorem recv_sem (k : Fin 14) (h : ∀ a, (![k.val] : Fin 1 → Nat) a + S1.size a ≤ S14.size a) :
    ((cc0_scratch2.slice (Rect.unit (s := S14) ![k.val] S1.size h)).squeeze S_ squeezes_S1_S_).sem = recvS k := by
  revert h; revert k; decide +kernel

/-- The copies by mask. -/
theorem by_mask (Φ : Fin 14 → sProp 𝕄) :
    bigSep Finset.univ Φ = bigSep (dutiesOf (some (.inl ()))) fun s => bigSep (Finset.univ.filter fun k => mask k = s) Φ := by
  rw [BI.bigSep_fiberwise Finset.univ mask Φ]
  exact congrArg (fun s => bigSep s _) (by decide)

/-- The three barrier payloads are the landing halves of all the copies the device issues. -/
theorem landings_of : bigSep (dutiesOf (some (.inl ()))) (fun d => payOf m c d (some (.inl ())))
    ⊢ (bigSep Finset.univ fun k => landing (nbr c (mask k)) k : sProp 𝕄) := by
  rw [by_mask]
  refine Entails.of_eq (bigSep_congr fun s _ => ?_)
  show barPay c s = _
  unfold barPay
  exact bigSep_congr fun k hk => by rw [(Finset.mem_filter.mp hk).2]

/-- What the cells of copy `k` are due: on the issuer's send cell its source half back, on the receiver's receive cell
    the landing half holding what belongs there. -/
theorem send_due (k : Fin 14) : (exch m).payload ((c : Thread nD τ), .dma (sendS k)) 0 0
    = (region c (srcS k) (half k) (copyShare k) (full m c) : sProp 𝕄) := exch_payload m c (.inr (.inl k)) 0
theorem recv_due (k : Fin 14) : (exch m).payload ((c : Thread nD τ), .dma (recvS k)) 0 0
    = (region c (dstS k) (half k) fullShare (full m c) : sProp 𝕄) := exch_payload m c (.inr (.inr k)) 0
theorem cell_due (o : KO) : bigSep ((exch m).duties ((c : Thread nD τ), osem o) 0 \ ∅) (fun d => (exch m).payload ((c : Thread nD τ), osem o) 0 d)
    = (payOf m c 0 (some (.inr o)) : sProp 𝕄) := (exch_rest m c (.inr o)).trans bigSep_singleton

/-! ## The steps -/

variable {α : Type}

/-- A device's barrier signal to the device at mask `s`. -/
theorem signal_step (s : Fin 8) (hs : s ∈ dutiesOf (some (.inl ()))) (n : Dev nD) (hn : n = nbr c s) (O : CellTallies nD τ sig Unit) (W : Waits sig Unit)
    {k : PUnit → Prog (TpuEff nD τ sig (Elt F) Λ₀ .tc) α} {Q : α → sProp 𝕄} :
    shared m K ⊢ iprop(dutyTok ER (barCell (nbr c s)) 0 s -∗ bigSep (Finset.univ.filter fun k => mask k = s) (landing c)
      -∗ owes (c : Thread nD τ) (O + tallyAt (barCell (nbr c s)) () 1) W
      -∗ (owes (c : Thread nD τ) O W -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) barS 1) k) Q) := by
  subst hn
  iintro #HS Ht Hl HO Hk
  iapply (Rounds.wp_signal 𝒱₀ ER (exch m) (c : Thread nD τ) none (dst := (nbr c s : Thread nD τ)) (κ := K (nbr c s, .inl ()))
      (d := s) ((exch_duties m (nbr c s) (.inl ())).symm ▸ hs)
      (exch_amount m (nbr c s) (.inl ()) s) () O rfl) $$ [HO Ht Hl]
  · isplitr; · iapply (shared_inv m K (nbr c s, .inl ())); iexact HS
    isplitl [HO]; · iexact HO
    isplitl [Ht]; · iexact Ht
    isplitl [Hl]
    · rw [show (exch m).payload ((nbr c s : Thread nD τ), SemLoc.reg barS) 0 s = barPay (nbr c s) s from exch_payload m (nbr c s) (.inl ()) s]
      unfold barPay; rw [nbr_nbr]; iexact Hl
    iapply (shared_reached m K (nbr c s, .inl ())); iexact HS
  iexact Hk

/-- The device waits for all three of its barrier signals, closes its barrier and comes by the three neighbours' landing
    halves. -/
theorem barrier_step (W : Waits sig Unit)
    {k : PUnit → Prog (TpuEff nD τ sig (Elt F) Λ₀ .tc) α} {Q : α → sProp 𝕄} :
    shared m K ⊢ iprop(cred (tallyAt (barCell c) () 3) -∗ atPos ER (barCell c) 0 ∅ 0 -∗ owes (c : Thread nD τ) (owedL c allCopies) W
      -∗ (semVal (barCell c) 0 -∗ bigSep Finset.univ (fun k => landing (nbr c (mask k)) k) -∗ owing c 0 -∗ wp frame (wpE (defs₀ (F := F)) 𝒱₀ (c : Thread nD τ) none) Set.univ (k ⟨⟩) Q)
      -∗ wp frame (wpE (defs₀ (F := F)) 𝒱₀ (c : Thread nD τ) none) Set.univ (.op (.semWait barS 3) k) Q) := by
  iintro #HS Hc Hp HO Hk
  iapply (Rounds.wp_wait_rest_token 𝒱₀ ER (exch m) (c : Thread nD τ) none (κ := K (c, .inl ()))
      (wpE_semWait_eq 𝒱₀ (c : Thread nD τ) none Set.univ) (Set.mem_univ _) () (O := owedL c allCopies) (W := W) (R := 0) (m := 0) (T := ∅)
      (by rw [show (((c : Thread nD τ), SemLoc.reg barS) : GSem nD τ sig) = kcell (c, .inl ()) from rfl, exch_expect]; rfl)) $$ [Hc Hp HO]
  · isplitr; · iapply (shared_inv m K (c, .inl ())); iexact HS
    isplitl [Hc]; · iexact Hc
    isplitl [HO]; · iexact HO
    isplitr; · iapply (shared_wait m K c (.reg barS) allCopies (by decide)); iexact HS
    iexact Hp
  iintro ⟨HO, Hp, -, Hd⟩
  iapply fupd_wp
  imod (Rounds.cell_close ER (exch m) (g := kcell (c, .inl ())) (κ := K (c, .inl ())) (Set.mem_univ _) (fun h => h) (R := 0 + 1) (exch_later m _)) $$ [Hp] with Hv
  · isplitr; · iapply (shared_inv m K (c, .inl ())); iexact HS
    iexact Hp
  imodintro
  iapply Hk $$ Hv [Hd] [HO]
  · iapply (landings_of m c); rw [← exch_rest m c (.inl ())]; iexact Hd
  unfold owing; iexists _; iexact HO

/-- Device `c` issues copy `k`. -/
theorem send_step (k : Fin 14) (s d : Fin 8) (h : Fin 2) (q : PosShare TreeShare) (a b : ℕ)
    (e : s = srcS k ∧ d = dstS k ∧ h = half k ∧ q = copyShare k ∧ a = k.val ∧ b = k.val + 1)
    (n : Dev nD) (hn : n = nbr c (mask k)) (qs qr : DmaSem sig) (hs : qs = sendS k) (hr : qr = recvS k)
    {hsc : (slotV d h).view.ref.isScScratch = false} {hsrc : (slotV s h).view.WordExact} {hdst : (slotV d h).view.WordExact}
    {hsem : DmaTarget.Typed .vmem (.dma qr) (.remote (Dev.tc n : Thread nD τ) (slotV d h) (.dma qs) hsc)}
    {kont : PUnit → Prog (TpuEff nD τ sig (Elt F) Λ₀ .tc) α} {Q : α → sProp 𝕄} :
    shared m K ⊢ iprop(kit c k -∗ landing (nbr c (mask k)) k -∗ region c s h q (full m c) -∗ owing c a
      -∗ (issued c k -∗ owing c b -∗ wp frame (wpE (defs₀ (F := F)) 𝒱₀ (c : Thread nD τ) none) Set.univ (kont ⟨⟩) Q)
      -∗ wp frame (wpE (defs₀ (F := F)) 𝒱₀ (c : Thread nD τ) none) Set.univ (.op (.enqueueDma (slotV s h) (.remote (Dev.tc n : Thread nD τ) (slotV d h) (.dma qs) hsc) (.dma qr) hsrc hdst hsem) kont) Q) := by
  obtain ⟨rfl, rfl, rfl, rfl, rfl, rfl⟩ := e
  subst hn hs hr
  unfold landing owing kit
  iintro #HS ⟨Hps, Hpr, Hts, Htr, Hc⟩ ⟨%fd, Hd⟩ Hr ⟨%W, HO⟩ Hk
  have hl : (region (nbr c (mask k)) (dstS k) (half k) fullShare ((slotV (dstS k) (half k)).view.write (Elt F) fd ((slotV (srcS k) (half k)).view.read (Elt F) (full m c)) Finset.univ) : sProp 𝕄)
      ⊢ (exch m).payload ((nbr c (mask k) : Thread nD τ), .dma (recvS k)) 0 0 := by
    rw [recv_due]; exact Entails.of_eq (region_congr (nbr c (mask k)) (dstS k) (half k) fullShare _ _ (landed_eq m c k fd))
  have hb := Entails.of_eq (send_due m c k).symm
  unfold region at hl hb
  have hw := Rounds.wp_send_pointsTo (Γ := []) (Es := Set.univ) (Q := Q) (k := kont) (hsc := hsc) (hsrc := hsrc) (hdst := hdst) (hsem := hsem)
    (defs := defs₀ (F := F)) 𝒱₀ ER (exch m) (c : Thread nD τ) none (κ₁ := K (c, .inr (.inl k))) (κ₂ := K (nbr c (mask k), .inr (.inr k)))
    (r₁ := 0) (r₂ := 0) (d₁ := 0) (d₂ := 0) (fd := fd) (fs := full m c) (q := copyShare k)
    ((exch_duties m c (.inr (.inl k))).symm ▸ Finset.mem_singleton_self _)
    ((exch_duties m (nbr c (mask k)) (.inr (.inr k))).symm ▸ Finset.mem_singleton_self _)
    () () N rfl (exch_amount m c (.inr (.inl k)) 0) (exch_amount m (nbr c (mask k)) (.inr (.inr k)) 0) (owedL c (left (k.val + 1)))
    (O₀ := owedL c (left k.val)) (by rw [left_cons]; rfl) (W := W) hb hl
  iapply hw $$ [Hts Htr Hd Hr HO]
  · isplitr; · iapply (shared_inv m K (c, .inr (.inl k))); iexact HS
    isplitr; · iapply (shared_inv m K (nbr c (mask k), .inr (.inr k))); iexact HS
    isplitl [Hr]; · unfold region; iexact Hr
    isplitl [Hd]; · unfold region; iexact Hd
    isplitl [HO]; · iexact HO
    isplitl [Hts]; · iexact Hts
    isplitr; · iapply (shared_reached m K (c, .inr (.inl k))); iexact HS
    isplitl [Htr]; · iexact Htr
    iapply (shared_reached m K (nbr c (mask k), .inr (.inr k))); iexact HS
  iintro ⟨Hcs, HO⟩
  iapply Hk $$ [Hps Hpr Hc Hcs] [HO]
  · unfold issued
    isplitl [Hps]; · iexact Hps
    isplitl [Hpr]; · iexact Hpr
    isplitl [Hc]; · iexact Hc
    iexact Hcs
  iexists W; iexact HO

/-- A wait on one of the copies' cells takes the cell's credit and position, closes the cell and gives its payload. -/
theorem wait_step (o : KO) (n : ℕ) (h : ∀ k ∈ left n, levelOf (some (.inr o)) < recvLevel k) (q : DmaSem sig) (hq : .dma q = osem o)
    {hk : Proc.tc = .tc ∨ (cc0_scratch0 : Ref sig .tc).HasMemref S2x256x512 .bf16}
    {kont : PUnit → Prog (TpuEff nD τ sig (Elt F) Λ₀ .tc) α} {Q : α → sProp 𝕄} :
    shared m K ⊢ iprop(cred (tallyAt ((c : Thread nD τ), osem o) () N) -∗ atPos ER ((c : Thread nD τ), osem o) 0 ∅ 0 -∗ owing c n
      -∗ (semVal ((c : Thread nD τ), osem o) 0 -∗ owing c n -∗ payOf m c 0 (some (.inr o)) -∗ wp frame (wpE (defs₀ (F := F)) 𝒱₀ (c : Thread nD τ) none) Set.univ (kont ⟨⟩) Q)
      -∗ wp frame (wpE (defs₀ (F := F)) 𝒱₀ (c : Thread nD τ) none) Set.univ (.op (.waitDma q cc0_scratch0 S2x256x512 .bf16 hk) kont) Q) := by
  rw [← hq]
  unfold owing
  iintro #HS Hc Hp ⟨%W, HO⟩ Hk
  iapply (Rounds.wp_wait_rest_token 𝒱₀ ER (exch m) (c : Thread nD τ) none (κ := K (c, .inr o)) (k' := N)
      (wpE_waitDma_eq 𝒱₀ (c : Thread nD τ) none Set.univ) (Set.mem_univ _) () (O := owedL c (left n)) (W := W) (R := 0) (m := 0) (T := ∅)
      (by rw [show (((c : Thread nD τ), SemLoc.dma q) : GSem nD τ sig) = kcell (c, .inr o) by rw [hq], exch_expect, if_neg Sum.inr_ne_inl, zero_add])) $$ [Hc Hp HO]
  · rw [hq]
    isplitr; · iapply (shared_inv m K (c, .inr o)); iexact HS
    isplitl [Hc]; · iexact Hc
    isplitl [HO]; · iexact HO
    isplitr; · iapply (shared_wait m K c (osem o) (left n) (by rw [show osem o = csem (.inr o) from rfl, role_csem]; exact h)); iexact HS
    iexact Hp
  rw [hq]
  iintro ⟨HO, Hp, -, Hd⟩
  iapply fupd_wp
  imod (Rounds.cell_close ER (exch m) (g := kcell (c, .inr o)) (κ := K (c, .inr o)) (Set.mem_univ _) (fun h => h) (R := 0 + 1) (exch_later m _)) $$ [Hp] with Hv
  · isplitr; · iapply (shared_inv m K (c, .inr o)); iexact HS
    iexact Hp
  imodintro
  iapply Hk $$ Hv [HO] [Hd]
  · iexists _; iexact HO
  rw [← cell_due m c o]; iexact Hd

/-- The wait for copy `k` to have left gives its source half back. -/
theorem wait_send_step (k : Fin 14) (n : ℕ) (hl : ∀ k' ∈ left n, 0 < recvLevel k') (s : Fin 8) (h : Fin 2) (p : PosShare TreeShare)
    (e : s = srcS k ∧ h = half k ∧ p = copyShare k) (q : DmaSem sig) (hq : q = sendS k)
    {hk : Proc.tc = .tc ∨ (cc0_scratch0 : Ref sig .tc).HasMemref S2x256x512 .bf16}
    {kont : PUnit → Prog (TpuEff nD τ sig (Elt F) Λ₀ .tc) α} {Q : α → sProp 𝕄} :
    shared m K ⊢ iprop(issued c k -∗ owing c n
      -∗ (sent c k -∗ owing c n -∗ region c s h p (full m c) -∗ wp frame (wpE (defs₀ (F := F)) 𝒱₀ (c : Thread nD τ) none) Set.univ (kont ⟨⟩) Q)
      -∗ wp frame (wpE (defs₀ (F := F)) 𝒱₀ (c : Thread nD τ) none) Set.univ (.op (.waitDma q cc0_scratch0 S2x256x512 .bf16 hk) kont) Q) := by
  obtain ⟨rfl, rfl, rfl⟩ := e
  subst hq
  unfold issued sent
  iintro #HS ⟨Hps, Hpr, Hc, Hcs⟩ HO Hk
  iapply (wait_step m K c (.inl k) n hl (sendS k) rfl) $$ HS Hcs Hps HO
  iintro Hv HO Hr
  iapply Hk $$ [Hv Hpr Hc] HO [Hr]
  · isplitl [Hv]; · iexact Hv
    isplitl [Hpr]; · iexact Hpr
    iexact Hc
  iapply (Entails.of_eq (show payOf m c 0 (some (.inr (.inl k))) = region c (srcS k) (half k) (copyShare k) (full m c) from rfl)); iexact Hr

/-- The wait for copy `k` to have landed gives the landing half, holding what belongs there. -/
theorem wait_recv_step (k : Fin 14) (n : ℕ) (hl : ∀ k' ∈ left n, recvLevel k < recvLevel k') (d : Fin 8) (h : Fin 2)
    (e : d = dstS k ∧ h = half k) (q : DmaSem sig) (hq : q = recvS k)
    {hk : Proc.tc = .tc ∨ (cc0_scratch0 : Ref sig .tc).HasMemref S2x256x512 .bf16}
    {kont : PUnit → Prog (TpuEff nD τ sig (Elt F) Λ₀ .tc) α} {Q : α → sProp 𝕄} :
    shared m K ⊢ iprop(sent c k -∗ owing c n
      -∗ (finished c k -∗ owing c n -∗ region c d h fullShare (full m c) -∗ wp frame (wpE (defs₀ (F := F)) 𝒱₀ (c : Thread nD τ) none) Set.univ (kont ⟨⟩) Q)
      -∗ wp frame (wpE (defs₀ (F := F)) 𝒱₀ (c : Thread nD τ) none) Set.univ (.op (.waitDma q cc0_scratch0 S2x256x512 .bf16 hk) kont) Q) := by
  obtain ⟨rfl, rfl⟩ := e
  subst hq
  unfold sent finished
  iintro #HS ⟨Hv, Hpr, Hc⟩ HO Hk
  iapply (wait_step m K c (.inr k) n hl (recvS k) rfl) $$ HS Hc Hpr HO
  iintro Hv' HO Hr
  iapply Hk $$ [Hv Hv'] HO [Hr]
  · isplitl [Hv]; · iexact Hv
    iexact Hv'
  iapply (Entails.of_eq (show payOf m c 0 (some (.inr (.inr k))) = region c (dstS k) (half k) fullShare (full m c) from rfl)); iexact Hr

/-- A load of expert `j`'s block of slot `s` out of the half that holds it. -/
theorem load_step (s : Fin 8) (j : Fin 4) (hf : Fin 2) (hj : j.val / 2 = hf.val) (q : PosShare TreeShare)
    {hl : scr.view.LoadsAt (chunkRect s j).toLoadRect}
    {kont : _ → Prog (TpuEff nD τ sig (Elt F) Λ₀ .tc) α} {Q : α → sProp 𝕄} :
    (region c s hf q (full m c) : sProp 𝕄)
      ⊢ iprop((region c s hf q (full m c) -∗ wp frame (wpE (defs₀ (F := F)) 𝒱₀ (c : Thread nD τ) none) Set.univ (kont (chunk m c s j)) Q)
          -∗ wp frame (wpE (defs₀ (F := F)) 𝒱₀ (c : Thread nD τ) none) Set.univ (.op (.load scr (chunkRect s j).toLoadRect hl) kont) Q) := by
  unfold region chunk
  exact wp_load 𝒱₀ (c : Thread nD τ) none Set.univ (m := scr) (chunk_subset s j hf hj)

/-! ## The slots as a whole -/

theorem fin14 (Φ : Fin 14 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) := by
  rw [bigSep_univ_eq_bigSepL [0, 1, 2, 3, 4, 5, 6, 7, 8, 9, 10, 11, 12, 13] (by decide) (by decide)]
  simp only [bigSepL_cons_cons, bigSepL_singleton]
  rfl

/-- All sixteen halves, by name. -/
theorem slots_listed (f : Buf (Elt F) ((c : Thread nD τ).loc cc0_scratch0)) :
    (((c : Thread nD τ).loc cc0_scratch0) ↦{fullShare} f : sProp 𝕄)
      = iprop((region c 0 0 fullShare f ∗ region c 0 1 fullShare f) ∗ region c 1 0 fullShare f ∗ region c 1 1 fullShare f ∗ region c 3 0 fullShare f
        ∗ region c 3 1 fullShare f ∗ region c 4 0 fullShare f ∗ region c 4 1 fullShare f ∗ region c 2 0 fullShare f ∗ region c 2 1 fullShare f
        ∗ region c 7 0 fullShare f ∗ region c 7 1 fullShare f ∗ region c 5 0 fullShare f ∗ region c 5 1 fullShare f ∗ region c 6 0 fullShare f
        ∗ region c 6 1 fullShare f) := by
  rw [slots_split c fullShare f, slots_named c, fin14]
  rfl

/-- After the device has stored its own weights in slot 0: the two halves of slot 0, holding what belongs there, and the
    landing halves sorted by the neighbour that is to write them. -/
theorem slots_given (f : Buf (Elt F) ((c : Thread nD τ).loc cc0_scratch0)) :
    (((c : Thread nD τ).loc cc0_scratch0) ↦{fullShare}
        (scr.access (Rect.unit (s := S8x4x256x512) ![0, 0, 0, 0] S1x4x256x512.size inb_S8x4x256x512_S1x4x256x512_0_0_0_0)).write (Elt F) f
          (k0_pay2 (estg m c)) Finset.univ : sProp 𝕄)
      ⊢ iprop((region c 0 0 fullShare (full m c) ∗ region c 0 1 fullShare (full m c)) ∗ bigSep (Finset.univ.filter fun k => mask k = 1) (landing c)
        ∗ bigSep (Finset.univ.filter fun k => mask k = 3) (landing c) ∗ bigSep (Finset.univ.filter fun k => mask k = 4) (landing c)) := by
  rw [slots_split, slots_named c]
  refine sep_mono (Entails.of_eq ?_) ?_
  · rw [region_congr c 0 0 fullShare _ _ (own_eq m c f 0), region_congr c 0 1 fullShare _ _ (own_eq m c f 1)]
  refine (bigSep_mono (Ψ := landing c) fun k _ => ?_).trans ?_
  · show (region c (dstS k) (half k) fullShare _ : sProp 𝕄) ⊢ iprop(∃ f, region c (dstS k) (half k) fullShare f)
    iintro H; iexists _; iexact H
  have h := by_mask (F := F) (landing c)
  rw [show dutiesOf (some (.inl ())) = {1, 3, 4} from rfl, BI.bigSep_insert (by decide), BI.bigSep_insert (by decide), bigSep_singleton] at h
  rw [h]
  exact Entails.refl _

end Cert.Moe

end
-- ==== Proof.PartsA.lean ====
/-
The kernel's body, part by part: what each part takes and leaves. A part's payloads stay as the values it was given make
them; what the parts compute together is read off afterwards.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KC → ℕ) (c : Dev nD)

/-! ## The staging buffers, whole -/

theorem zero2 : (![0, 0] : Fin 2 → Nat) = fun _ => 0 := funext fun a => by fin_cases a <;> rfl
theorem zero3 : (![0, 0, 0] : Fin 3 → Nat) = fun _ => 0 := funext fun a => by fin_cases a <;> rfl

abbrev stX (X : (cc0_stg0_0 : Ref sig .tc).ty.Contents (Elt F)) : sProp 𝕄 := iprop(((c : Thread nD τ).loc cc0_stg0_0) ↦{fullShare} X)
abbrev stR (X : (cc0_stg1_0 : Ref sig .tc).ty.Contents (Elt F)) : sProp 𝕄 := iprop(((c : Thread nD τ).loc cc0_stg1_0) ↦{fullShare} X)
abbrev stI (X : (cc0_stg2_0 : Ref sig .tc).ty.Contents (Elt F)) : sProp 𝕄 := iprop(((c : Thread nD τ).loc cc0_stg2_0) ↦{fullShare} X)
abbrev stE (X : (cc0_stg3_0 : Ref sig .tc).ty.Contents (Elt F)) : sProp 𝕄 := iprop(((c : Thread nD τ).loc cc0_stg3_0) ↦{fullShare} X)
abbrev stW (X : (cc0_stg4_0 : Ref sig .tc).ty.Contents (Elt F)) : sProp 𝕄 := iprop(((c : Thread nD τ).loc cc0_stg4_0) ↦{fullShare} X)
abbrev stO (X : (cc0_stg5_0 : Ref sig .tc).ty.Contents (Elt F)) : sProp 𝕄 := iprop(((c : Thread nD τ).loc cc0_stg5_0) ↦{fullShare} X)

theorem readX (f : (cc0_stg0_0 : Ref sig .tc).ty.Contents (Elt F)) :
    (Memref.whole cc0_stg0_0 : Memref sig .tc _ _ _).view.readAt (Elt F) (Rect.unit (s := S1024x256) ![0, 0] S1024x256.size inb_S1024x256_S1024x256_0_0).toLoadRect f = f :=
  Memref.readAt_unit_zero (Elt F) cc0_stg0_0 zero2 _ f
theorem readR (f : (cc0_stg1_0 : Ref sig .tc).ty.Contents (Elt F)) :
    (Memref.whole cc0_stg1_0 : Memref sig .tc _ _ _).view.readAt (Elt F) (Rect.unit (s := S256x32) ![0, 0] S256x32.size inb_S256x32_S256x32_0_0).toLoadRect f = f :=
  Memref.readAt_unit_zero (Elt F) cc0_stg1_0 zero2 _ f
theorem readI (f : (cc0_stg2_0 : Ref sig .tc).ty.Contents (Elt F)) :
    (Memref.whole cc0_stg2_0 : Memref sig .tc _ _ _).view.readAt (Elt F) (Rect.unit (s := S1024x1) ![0, 0] S1024x1.size inb_S1024x1_S1024x1_0_0).toLoadRect f = f :=
  Memref.readAt_unit_zero (Elt F) cc0_stg2_0 zero2 _ f
theorem readE (f : (cc0_stg3_0 : Ref sig .tc).ty.Contents (Elt F)) :
    (Memref.whole cc0_stg3_0 : Memref sig .tc _ _ _).view.readAt (Elt F) (Rect.unit (s := S4x256x512) ![0, 0, 0] S4x256x512.size inb_S4x256x512_S4x256x512_0_0_0).toLoadRect f = f :=
  Memref.readAt_unit_zero (Elt F) cc0_stg3_0 zero3 _ f
theorem readW (f : (cc0_stg4_0 : Ref sig .tc).ty.Contents (Elt F)) :
    (Memref.whole cc0_stg4_0 : Memref sig .tc _ _ _).view.readAt (Elt F) (Rect.unit (s := S256x512) ![0, 0] S256x512.size inb_S256x512_S256x512_0_0).toLoadRect f = f :=
  Memref.readAt_unit_zero (Elt F) cc0_stg4_0 zero2 _ f

/-- The device's own number as the kernel computes it. -/
abbrev word : BitVec 32 := Scalar.remsi (Scalar.divsi (Dev.word c) 1#32) 8#32

/-- The opening: the device stores its own weights in slot 0, raises its three neighbours' barriers, handing each the landing
    halves it is to write, and waits for theirs. -/
theorem part1 (f : Buf (Elt F) ((c : Thread nD τ).loc cc0_scratch0)) (W : Waits sig Unit)
    {Q : (Σ' (d0 : Dev nD) (v2 : BitVec 32) (v3 : BitVec 32) (v4 : BitVec 32), BitVec 32) → sProp 𝕄} :
    shared m K ⊢ iprop(atPos ER (barCell c) 0 ∅ 0 -∗ dutyTok ER (barCell (nbr c 1)) 0 1 -∗ dutyTok ER (barCell (nbr c 3)) 0 3
      -∗ dutyTok ER (barCell (nbr c 4)) 0 4 -∗ cred (tallyAt (barCell c) () 3)
      -∗ (((c : Thread nD τ).loc cc0_scratch0) ↦{fullShare} f) -∗ owes (c : Thread nD τ) (owed0 c) W -∗ stE c (estg m c)
      -∗ (semVal (barCell c) 0 -∗ region c 0 0 fullShare (full m c) -∗ region c 0 1 fullShare (full m c)
        -∗ bigSep Finset.univ (fun k => landing (nbr c (mask k)) k) -∗ owing c 0 -∗ stE c (estg m c)
        -∗ Q ⟨c, word c, Scalar.xori (word c) 1#32, Scalar.xori (word c) 3#32, Scalar.xori (word c) 4#32⟩)
      -∗ wp frame (wpE (defs₀ (F := F)) 𝒱₀ (c : Thread nD τ) none) Set.univ
          (k0_part1 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) Q) := by
  rw [k0_part1_eq_skeleton]; unfold k0_part1_skel
  simp only [semSignalWord, semWaitWord, Prog.lift, Prog.bind_op, Prog.bind_ret, Prog.pure_eq_ret, wp_deviceId]
  iintro #HS Hp T1 T3 T4 Hc Hscr HO hE Hk
  iapply (wp_load 𝒱₀ (c : Thread nD τ) none Set.univ (m := Memref.whole cc0_stg3_0) (Finset.subset_univ _)) $$ hE
  iintro hE
  rw [readE]
  iapply (wp_load 𝒱₀ (c : Thread nD τ) none Set.univ (m := scr) (Finset.subset_univ _)) $$ Hscr
  iintro Hscr
  iapply (wp_store 𝒱₀ (c : Thread nD τ) none Set.univ (m := scr)
    (r := Rect.unit (s := S8x4x256x512) ![0, 0, 0, 0] S1x4x256x512.size inb_S8x4x256x512_S1x4x256x512_0_0_0_0) (Mk := Finset.univ) (Finset.subset_univ _)) $$ Hscr
  iintro Hscr
  ihave HG := (slots_given m c f) $$ Hscr
  icases HG with ⟨⟨R00, R01⟩, B1, B3, B4⟩
  unfold owed0
  iapply (signal_step m K c 1 (by decide) _ (Fin.ext (sig_devs c 0)) _ W) $$ HS T1 B1 HO
  iintro HO
  iapply (signal_step m K c 3 (by decide) _ (Fin.ext (sig_devs c 1)) _ W) $$ HS T3 B3 HO
  iintro HO
  iapply (signal_step m K c 4 (by decide) _ (Fin.ext (sig_devs c 2)) _ W) $$ HS T4 B4 HO
  iintro HO
  iapply (barrier_step m K c W) $$ HS Hc Hp HO
  iintro Hv Hl HO
  rw [wp_ret]; imodintro
  iapply Hk $$ Hv R00 R01 Hl HO hE

theorem part2 (v3 : BitVec 32) (v4 : BitVec 32) {Q : (PUnit) → sProp 𝕄} :
    shared m K ⊢ iprop(kit c 0 -∗ landing (nbr c (mask 0)) 0 -∗ region c 0 0 fullShare.left.left (full m c) -∗ owing c 0 -∗ kit c 1 -∗ landing (nbr c (mask 1)) 1 -∗ region c 0 1 fullShare.left.left (full m c) -∗ kit c 2 -∗ landing (nbr c (mask 2)) 2 -∗ region c 0 0 fullShare.left.right (full m c)
      -∗ (issued c 0 -∗ owing c 3 -∗ issued c 1 -∗ issued c 2 -∗ Q ⟨⟩)
      -∗ wp frame (wpE (defs₀ (F := F)) 𝒱₀ (c : Thread nD τ) none) Set.univ
          (k0_part2 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v3 v4) Q) := by
  rw [k0_part2_eq_skeleton]; unfold k0_part2_skel
  simp only [Prog.lift, Prog.bind_op, Prog.bind_ret, Prog.pure_eq_ret]
  iintro #HS K0 L0 S0 O K1 L1 S1 K2 L2 S2 Hk
  iapply (send_step m K c 0 0 1 0 fullShare.left.left 0 1 ⟨rfl, rfl, rfl, rfl, rfl, rfl⟩ _ (Fin.ext (copy_devs c 0)) _ _ (send_sem 0 _) (recv_sem 0 _)) $$ HS K0 L0 S0 O
  iintro K0 O
  iapply (send_step m K c 1 0 1 1 fullShare.left.left 1 2 ⟨rfl, rfl, rfl, rfl, rfl, rfl⟩ _ (Fin.ext (copy_devs c 1)) _ _ (send_sem 1 _) (recv_sem 1 _)) $$ HS K1 L1 S1 O
  iintro K1 O
  iapply (send_step m K c 2 0 3 0 fullShare.left.right 2 3 ⟨rfl, rfl, rfl, rfl, rfl, rfl⟩ _ (Fin.ext (copy_devs c 2)) _ _ (send_sem 2 _) (recv_sem 2 _)) $$ HS K2 L2 S2 O
  iintro K2 O
  rw [wp_ret]; imodintro
  iapply Hk $$ K0 O K1 K2

theorem part3 (v4 : BitVec 32) (v5 : BitVec 32) {Q : (PUnit) → sProp 𝕄} :
    shared m K ⊢ iprop(kit c 3 -∗ landing (nbr c (mask 3)) 3 -∗ region c 0 1 fullShare.left.right (full m c) -∗ owing c 3 -∗ kit c 4 -∗ landing (nbr c (mask 4)) 4 -∗ region c 0 0 fullShare.right.left (full m c)
      -∗ (issued c 3 -∗ owing c 5 -∗ issued c 4 -∗ Q ⟨⟩)
      -∗ wp frame (wpE (defs₀ (F := F)) 𝒱₀ (c : Thread nD τ) none) Set.univ
          (k0_part3 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v4 v5) Q) := by
  rw [k0_part3_eq_skeleton]; unfold k0_part3_skel
  simp only [Prog.lift, Prog.bind_op, Prog.bind_ret, Prog.pure_eq_ret]
  iintro #HS K3 L3 S3 O K4 L4 S4 Hk
  iapply (send_step m K c 3 0 3 1 fullShare.left.right 3 4 ⟨rfl, rfl, rfl, rfl, rfl, rfl⟩ _ (Fin.ext (copy_devs c 3)) _ _ (send_sem 3 _) (recv_sem 3 _)) $$ HS K3 L3 S3 O
  iintro K3 O
  iapply (send_step m K c 4 0 4 0 fullShare.right.left 4 5 ⟨rfl, rfl, rfl, rfl, rfl, rfl⟩ _ (Fin.ext (copy_devs c 4)) _ _ (send_sem 4 _) (recv_sem 4 _)) $$ HS K4 L4 S4 O
  iintro K4 O
  rw [wp_ret]; imodintro
  iapply Hk $$ K3 O K4

theorem part4 (v2 : BitVec 32) {Q : (Σ' (v81 : FVec F S1024x256 .bf16) (v83 : IVec S1024x1 32) (v102 : FVec F S1024x1 .f32) (v105 : FVec F S1024x512 .f32) (v106 : BitVec 32), FVec F S1024x256 .bf16) → sProp 𝕄} :
    shared m K ⊢ iprop(kit c 5 -∗ landing (nbr c (mask 5)) 5 -∗ region c 0 1 fullShare.right.left (full m c) -∗ owing c 5 -∗ stX c (xstg m c) -∗ stI c (istg m c) -∗ stR c (rstg m c) -∗ stW c (wstg m c)
      -∗ (issued c 5 -∗ owing c 6 -∗ stX c (xstg m c) -∗ stI c (istg m c) -∗ stR c (rstg m c) -∗ stW c (wstg m c) -∗ Q ⟨k0_pay4 (xstg m c), k0_pay5 (istg m c), k0_pay6 (xstg m c) (istg m c) (rstg m c), k0_pay7 (xstg m c) (wstg m c), (Scalar.xori v2 0#32), k0_pay8 v2 (xstg m c) (istg m c) (rstg m c)⟩)
      -∗ wp frame (wpE (defs₀ (F := F)) 𝒱₀ (c : Thread nD τ) none) Set.univ
          (k0_part4 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v2) Q) := by
  rw [k0_part4_eq_skeleton]; unfold k0_part4_skel
  simp only [Prog.lift, Prog.bind_op, Prog.bind_ret, Prog.pure_eq_ret]
  iintro #HS K5 L5 S5 O hX hI hR hW Hk
  iapply (send_step m K c 5 0 4 1 fullShare.right.left 5 6 ⟨rfl, rfl, rfl, rfl, rfl, rfl⟩ _ (Fin.ext (copy_devs c 5)) _ _ (send_sem 5 _) (recv_sem 5 _)) $$ HS K5 L5 S5 O
  iintro K5 O
  iapply (wp_load 𝒱₀ (c : Thread nD τ) none Set.univ (m := Memref.whole cc0_stg0_0) (Finset.subset_univ _)) $$ hX
  iintro hX
  rw [readX]
  iapply (wp_load 𝒱₀ (c : Thread nD τ) none Set.univ (m := Memref.whole cc0_stg2_0) (Finset.subset_univ _)) $$ hI
  iintro hI
  rw [readI]
  iapply (wp_load 𝒱₀ (c : Thread nD τ) none Set.univ (m := Memref.whole cc0_stg1_0) (Finset.subset_univ _)) $$ hR
  iintro hR
  rw [readR]
  iapply (wp_load 𝒱₀ (c : Thread nD τ) none Set.univ (m := Memref.whole cc0_stg4_0) (Finset.subset_univ _)) $$ hW
  iintro hW
  rw [readW]
  rw [wp_ret]; imodintro
  iapply Hk $$ K5 O hX hI hR hW

theorem part5 (v81 : FVec F S1024x256 .bf16) (v83 : IVec S1024x1 32) (v102 : FVec F S1024x1 .f32) (v105 : FVec F S1024x512 .f32) (v106 : BitVec 32) (v115 : FVec F S1024x256 .bf16) {Q : (Σ' (v148 : FVec F S1024x512 .f32), FVec F S1024x1 .f32) → sProp 𝕄} :
    shared m K ⊢ iprop(region c 0 0 fullShare.right.right (full m c) -∗ region c 0 1 fullShare.right.right (full m c)
      -∗ (region c 0 0 fullShare.right.right (full m c) -∗ region c 0 1 fullShare.right.right (full m c) -∗ Q ⟨k0_pay9 v81 v83 v102 v105 v106 v115 (chunk m c 0 0) (chunk m c 0 1) (chunk m c 0 2), k0_pay10 (F := F) v83 v106⟩)
      -∗ wp frame (wpE (defs₀ (F := F)) 𝒱₀ (c : Thread nD τ) none) Set.univ
          (k0_part5 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v81 v83 v102 v105 v106 v115) Q) := by
  rw [k0_part5_eq_skeleton]; unfold k0_part5_skel
  simp only [Prog.lift, Prog.bind_op, Prog.bind_ret, Prog.pure_eq_ret]
  iintro #HS R00 R01 Hk
  iapply (load_step m c 0 0 0 rfl _) $$ R00
  iintro R00
  iapply (load_step m c 0 1 0 rfl _) $$ R00
  iintro R00
  iapply (load_step m c 0 2 1 rfl _) $$ R01
  iintro R01
  rw [wp_ret]; imodintro
  iapply Hk $$ R00 R01

theorem part6 (v3 : BitVec 32) (v4 : BitVec 32) (v81 : FVec F S1024x256 .bf16) (v102 : FVec F S1024x1 .f32) (v148 : FVec F S1024x512 .f32) (v154 : FVec F S1024x1 .f32) {Q : (FVec F S1024x512 .f32) → sProp 𝕄} :
    shared m K ⊢ iprop(region c 0 1 fullShare.right.right (full m c) -∗ issued c 0 -∗ owing c 6
      -∗ (region c 0 1 fullShare.right.right (full m c) -∗ finished c 0 -∗ owing c 6 -∗ region c 0 0 fullShare.left.left (full m c) -∗ region c 1 0 fullShare.right (full m c) -∗ region c 1 0 fullShare.left (full m c) -∗ Q (k0_pay11 v81 v102 v148 v154 (chunk m c 0 3)))
      -∗ wp frame (wpE (defs₀ (F := F)) 𝒱₀ (c : Thread nD τ) none) Set.univ
          (k0_part6 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v3 v4 v81 v102 v148 v154) Q) := by
  rw [k0_part6_eq_skeleton]; unfold k0_part6_skel
  simp only [Prog.lift, Prog.bind_op, Prog.bind_ret, Prog.pure_eq_ret]
  iintro #HS R01 K0 O Hk
  iapply (load_step m c 0 3 1 rfl _) $$ R01
  iintro R01
  iapply (wait_send_step m K c 0 6 (by decide) 0 0 fullShare.left.left ⟨rfl, rfl, rfl⟩ _ (send_sem 0 _)) $$ HS K0 O
  iintro K0 O S0
  iapply (wait_recv_step m K c 0 6 (by decide) 1 0 ⟨rfl, rfl⟩ _ (recv_sem 0 _)) $$ HS K0 O
  iintro K0 O R10
  ihave RR := (region_share c 1 0 fullShare (full m c)).1 $$ R10
  icases RR with ⟨S6, R10⟩
  rw [wp_ret]; imodintro
  iapply Hk $$ R01 K0 O S0 R10 S6

theorem part7 (v3 : BitVec 32) (v4 : BitVec 32) {Q : (BitVec 32) → sProp 𝕄} :
    shared m K ⊢ iprop(kit c 6 -∗ landing (nbr c (mask 6)) 6 -∗ region c 1 0 fullShare.left (full m c) -∗ owing c 6 -∗ issued c 1
      -∗ (issued c 6 -∗ owing c 7 -∗ finished c 1 -∗ region c 0 1 fullShare.left.left (full m c) -∗ region c 1 1 fullShare.right (full m c) -∗ region c 1 1 fullShare.left (full m c) -∗ Q (Scalar.muli v4 1#32))
      -∗ wp frame (wpE (defs₀ (F := F)) 𝒱₀ (c : Thread nD τ) none) Set.univ
          (k0_part7 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v3 v4) Q) := by
  rw [k0_part7_eq_skeleton]; unfold k0_part7_skel
  simp only [Prog.lift, Prog.bind_op, Prog.bind_ret, Prog.pure_eq_ret]
  iintro #HS K6 L6 S6 O K1 Hk
  iapply (send_step m K c 6 1 2 0 fullShare.left 6 7 ⟨rfl, rfl, rfl, rfl, rfl, rfl⟩ _ (Fin.ext (copy_devs c 6)) _ _ (send_sem 6 _) (recv_sem 6 _)) $$ HS K6 L6 S6 O
  iintro K6 O
  iapply (wait_send_step m K c 1 7 (by decide) 0 1 fullShare.left.left ⟨rfl, rfl, rfl⟩ _ (send_sem 1 _)) $$ HS K1 O
  iintro K1 O S1
  iapply (wait_recv_step m K c 1 7 (by decide) 1 1 ⟨rfl, rfl⟩ _ (recv_sem 1 _)) $$ HS K1 O
  iintro K1 O R11
  ihave RR := (region_share c 1 1 fullShare (full m c)).1 $$ R11
  icases RR with ⟨S7, R11⟩
  rw [wp_ret]; imodintro
  iapply Hk $$ K6 O K1 S1 R11 S7

theorem part8 (v2 : BitVec 32) (v81 : FVec F S1024x256 .bf16) (v83 : IVec S1024x1 32) (v102 : FVec F S1024x1 .f32) (v162 : FVec F S1024x512 .f32) (v201 : BitVec 32) {Q : (Σ' (v211 : BitVec 32) (v225 : FVec F S1024x512 .f32), FVec F S1024x512 .f32) → sProp 𝕄} :
    shared m K ⊢ iprop(kit c 7 -∗ landing (nbr c (mask 7)) 7 -∗ region c 1 1 fullShare.left (full m c) -∗ owing c 7 -∗ region c 1 0 fullShare.right (full m c)
      -∗ (issued c 7 -∗ owing c 8 -∗ region c 1 0 fullShare.right (full m c) -∗ Q ⟨(Scalar.xori v2 1#32), k0_pay12 v2 v81 v83 v102 v162 (chunk m c 1 0), k0_pay13 v2 v81 v83 v102 (chunk m c 1 1)⟩)
      -∗ wp frame (wpE (defs₀ (F := F)) 𝒱₀ (c : Thread nD τ) none) Set.univ
          (k0_part8 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v2 v81 v83 v102 v162 v201) Q) := by
  rw [k0_part8_eq_skeleton]; unfold k0_part8_skel
  simp only [Prog.lift, Prog.bind_op, Prog.bind_ret, Prog.pure_eq_ret]
  iintro #HS K7 L7 S7 O R10 Hk
  iapply (send_step m K c 7 1 2 1 fullShare.left 7 8 ⟨rfl, rfl, rfl, rfl, rfl, rfl⟩ _ (Fin.ext (copy_devs c 7)) _ _ (send_sem 7 _) (recv_sem 7 _)) $$ HS K7 L7 S7 O
  iintro K7 O
  iapply (load_step m c 1 0 0 rfl _) $$ R10
  iintro R10
  iapply (load_step m c 1 1 0 rfl _) $$ R10
  iintro R10
  rw [wp_ret]; imodintro
  iapply Hk $$ K7 O R10

theorem part9 (v81 : FVec F S1024x256 .bf16) (v83 : IVec S1024x1 32) (v102 : FVec F S1024x1 .f32) (v211 : BitVec 32) (v225 : FVec F S1024x512 .f32) (v238 : FVec F S1024x512 .f32) {Q : (FVec F S1024x512 .f32) → sProp 𝕄} :
    shared m K ⊢ iprop(region c 1 1 fullShare.right (full m c)
      -∗ (region c 1 1 fullShare.right (full m c) -∗ Q (k0_pay14 v81 v83 v102 v211 v225 v238 (chunk m c 1 2) (chunk m c 1 3)))
      -∗ wp frame (wpE (defs₀ (F := F)) 𝒱₀ (c : Thread nD τ) none) Set.univ
          (k0_part9 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v81 v83 v102 v211 v225 v238) Q) := by
  rw [k0_part9_eq_skeleton]; unfold k0_part9_skel
  simp only [Prog.lift, Prog.bind_op, Prog.bind_ret, Prog.pure_eq_ret]
  iintro #HS R11 Hk
  iapply (load_step m c 1 2 1 rfl _) $$ R11
  iintro R11
  iapply (load_step m c 1 3 1 rfl _) $$ R11
  iintro R11
  rw [wp_ret]; imodintro
  iapply Hk $$ R11

end Cert.Moe

end
-- ==== Proof.PartsB.lean ====
/-
The kernel's body, part by part, continued.
-/
module

public import proofs.«01_k».proof.Proof.PartsA

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KC → ℕ) (c : Dev nD)

/-! ## The parts -/

theorem part10 (v4 : BitVec 32) (v5 : BitVec 32) {Q : (PUnit) → sProp 𝕄} :
    shared m K ⊢ iprop(issued c 2 -∗ owing c 8 -∗ kit c 8 -∗ landing (nbr c (mask 8)) 8
      -∗ (finished c 2 -∗ owing c 9 -∗ region c 0 0 fullShare.left.right (full m c) -∗ region c 3 0 fullShare.right (full m c) -∗ issued c 8 -∗ Q ⟨⟩)
      -∗ wp frame (wpE (defs₀ (F := F)) 𝒱₀ (c : Thread nD τ) none) Set.univ
          (k0_part10 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v4 v5) Q) := by
  rw [k0_part10_eq_skeleton]; unfold k0_part10_skel
  simp only [Prog.lift, Prog.bind_op, Prog.bind_ret, Prog.pure_eq_ret]
  iintro #HS K2 O K8 L8 Hk
  iapply (wait_send_step m K c 2 8 (by decide) 0 0 fullShare.left.right ⟨rfl, rfl, rfl⟩ _ (send_sem 2 _)) $$ HS K2 O
  iintro K2 O S2
  iapply (wait_recv_step m K c 2 8 (by decide) 3 0 ⟨rfl, rfl⟩ _ (recv_sem 2 _)) $$ HS K2 O
  iintro K2 O R30
  ihave RR := (region_share c 3 0 fullShare (full m c)).1 $$ R30
  icases RR with ⟨S8, R30⟩
  iapply (send_step m K c 8 3 7 0 fullShare.left 8 9 ⟨rfl, rfl, rfl, rfl, rfl, rfl⟩ _ (Fin.ext (copy_devs c 8)) _ _ (send_sem 8 _) (recv_sem 8 _)) $$ HS K8 L8 S8 O
  iintro K8 O
  rw [wp_ret]; imodintro
  iapply Hk $$ K2 O S2 R30 K8

theorem part11 (v2 : BitVec 32) (v4 : BitVec 32) (v5 : BitVec 32) (v83 : IVec S1024x1 32) (v102 : FVec F S1024x1 .f32) {Q : (Σ' (v316 : BitVec 32), FVec F S1024x256 .bf16) → sProp 𝕄} :
    shared m K ⊢ iprop(issued c 3 -∗ owing c 9 -∗ kit c 9 -∗ landing (nbr c (mask 9)) 9
      -∗ (finished c 3 -∗ owing c 10 -∗ region c 0 1 fullShare.left.right (full m c) -∗ region c 3 1 fullShare.right (full m c) -∗ issued c 9 -∗ Q ⟨(Scalar.xori v2 3#32), k0_pay15 v2 v83 v102⟩)
      -∗ wp frame (wpE (defs₀ (F := F)) 𝒱₀ (c : Thread nD τ) none) Set.univ
          (k0_part11 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v2 v4 v5 v83 v102) Q) := by
  rw [k0_part11_eq_skeleton]; unfold k0_part11_skel
  simp only [Prog.lift, Prog.bind_op, Prog.bind_ret, Prog.pure_eq_ret]
  iintro #HS K3 O K9 L9 Hk
  iapply (wait_send_step m K c 3 9 (by decide) 0 1 fullShare.left.right ⟨rfl, rfl, rfl⟩ _ (send_sem 3 _)) $$ HS K3 O
  iintro K3 O S3
  iapply (wait_recv_step m K c 3 9 (by decide) 3 1 ⟨rfl, rfl⟩ _ (recv_sem 3 _)) $$ HS K3 O
  iintro K3 O R31
  ihave RR := (region_share c 3 1 fullShare (full m c)).1 $$ R31
  icases RR with ⟨S9, R31⟩
  iapply (send_step m K c 9 3 7 1 fullShare.left 9 10 ⟨rfl, rfl, rfl, rfl, rfl, rfl⟩ _ (Fin.ext (copy_devs c 9)) _ _ (send_sem 9 _) (recv_sem 9 _)) $$ HS K9 L9 S9 O
  iintro K9 O
  rw [wp_ret]; imodintro
  iapply Hk $$ K3 O S3 R31 K9

theorem part12 (v81 : FVec F S1024x256 .bf16) (v83 : IVec S1024x1 32) (v102 : FVec F S1024x1 .f32) (v267 : FVec F S1024x512 .f32) (v316 : BitVec 32) (v325 : FVec F S1024x256 .bf16) {Q : (Σ' (v358 : FVec F S1024x512 .f32), FVec F S1024x1 .f32) → sProp 𝕄} :
    shared m K ⊢ iprop(region c 3 0 fullShare.right (full m c) -∗ region c 3 1 fullShare.right (full m c)
      -∗ (region c 3 0 fullShare.right (full m c) -∗ region c 3 1 fullShare.right (full m c) -∗ Q ⟨k0_pay16 v81 v83 v102 v267 v316 v325 (chunk m c 3 0) (chunk m c 3 1) (chunk m c 3 2), k0_pay17 (F := F) v83 v316⟩)
      -∗ wp frame (wpE (defs₀ (F := F)) 𝒱₀ (c : Thread nD τ) none) Set.univ
          (k0_part12 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v81 v83 v102 v267 v316 v325) Q) := by
  rw [k0_part12_eq_skeleton]; unfold k0_part12_skel
  simp only [Prog.lift, Prog.bind_op, Prog.bind_ret, Prog.pure_eq_ret]
  iintro #HS R30 R31 Hk
  iapply (load_step m c 3 0 0 rfl _) $$ R30
  iintro R30
  iapply (load_step m c 3 1 0 rfl _) $$ R30
  iintro R30
  iapply (load_step m c 3 2 1 rfl _) $$ R31
  iintro R31
  rw [wp_ret]; imodintro
  iapply Hk $$ R30 R31

theorem part13 (v3 : BitVec 32) (v5 : BitVec 32) (v81 : FVec F S1024x256 .bf16) (v102 : FVec F S1024x1 .f32) (v358 : FVec F S1024x512 .f32) (v364 : FVec F S1024x1 .f32) {Q : (FVec F S1024x512 .f32) → sProp 𝕄} :
    shared m K ⊢ iprop(region c 3 1 fullShare.right (full m c) -∗ issued c 4 -∗ owing c 10
      -∗ (region c 3 1 fullShare.right (full m c) -∗ finished c 4 -∗ owing c 10 -∗ region c 0 0 fullShare.right.left (full m c) -∗ region c 4 0 fullShare.right (full m c) -∗ region c 4 0 fullShare.left (full m c) -∗ Q (k0_pay18 v81 v102 v358 v364 (chunk m c 3 3)))
      -∗ wp frame (wpE (defs₀ (F := F)) 𝒱₀ (c : Thread nD τ) none) Set.univ
          (k0_part13 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v3 v5 v81 v102 v358 v364) Q) := by
  rw [k0_part13_eq_skeleton]; unfold k0_part13_skel
  simp only [Prog.lift, Prog.bind_op, Prog.bind_ret, Prog.pure_eq_ret]
  iintro #HS R31 K4 O Hk
  iapply (load_step m c 3 3 1 rfl _) $$ R31
  iintro R31
  iapply (wait_send_step m K c 4 10 (by decide) 0 0 fullShare.right.left ⟨rfl, rfl, rfl⟩ _ (send_sem 4 _)) $$ HS K4 O
  iintro K4 O S4
  iapply (wait_recv_step m K c 4 10 (by decide) 4 0 ⟨rfl, rfl⟩ _ (recv_sem 4 _)) $$ HS K4 O
  iintro K4 O R40
  ihave RR := (region_share c 4 0 fullShare (full m c)).1 $$ R40
  icases RR with ⟨S10, R40⟩
  rw [wp_ret]; imodintro
  iapply Hk $$ R31 K4 O S4 R40 S10

theorem part14 (v3 : BitVec 32) (v5 : BitVec 32) {Q : (BitVec 32) → sProp 𝕄} :
    shared m K ⊢ iprop(kit c 10 -∗ landing (nbr c (mask 10)) 10 -∗ region c 4 0 fullShare.left (full m c) -∗ owing c 10 -∗ issued c 5
      -∗ (issued c 10 -∗ owing c 11 -∗ finished c 5 -∗ region c 0 1 fullShare.right.left (full m c) -∗ region c 4 1 fullShare.right (full m c) -∗ region c 4 1 fullShare.left (full m c) -∗ Q (Scalar.muli v3 1#32))
      -∗ wp frame (wpE (defs₀ (F := F)) 𝒱₀ (c : Thread nD τ) none) Set.univ
          (k0_part14 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v3 v5) Q) := by
  rw [k0_part14_eq_skeleton]; unfold k0_part14_skel
  simp only [Prog.lift, Prog.bind_op, Prog.bind_ret, Prog.pure_eq_ret]
  iintro #HS K10 L10 S10 O K5 Hk
  iapply (send_step m K c 10 4 5 0 fullShare.left 10 11 ⟨rfl, rfl, rfl, rfl, rfl, rfl⟩ _ (Fin.ext (copy_devs c 10)) _ _ (send_sem 10 _) (recv_sem 10 _)) $$ HS K10 L10 S10 O
  iintro K10 O
  iapply (wait_send_step m K c 5 11 (by decide) 0 1 fullShare.right.left ⟨rfl, rfl, rfl⟩ _ (send_sem 5 _)) $$ HS K5 O
  iintro K5 O S5
  iapply (wait_recv_step m K c 5 11 (by decide) 4 1 ⟨rfl, rfl⟩ _ (recv_sem 5 _)) $$ HS K5 O
  iintro K5 O R41
  ihave RR := (region_share c 4 1 fullShare (full m c)).1 $$ R41
  icases RR with ⟨S11, R41⟩
  rw [wp_ret]; imodintro
  iapply Hk $$ K10 O K5 S5 R41 S11

theorem part15 (v2 : BitVec 32) (v81 : FVec F S1024x256 .bf16) (v83 : IVec S1024x1 32) (v102 : FVec F S1024x1 .f32) (v372 : FVec F S1024x512 .f32) (v411 : BitVec 32) {Q : (Σ' (v421 : BitVec 32) (v435 : FVec F S1024x512 .f32), FVec F S1024x512 .f32) → sProp 𝕄} :
    shared m K ⊢ iprop(kit c 11 -∗ landing (nbr c (mask 11)) 11 -∗ region c 4 1 fullShare.left (full m c) -∗ owing c 11 -∗ region c 4 0 fullShare.right (full m c)
      -∗ (issued c 11 -∗ owing c 12 -∗ region c 4 0 fullShare.right (full m c) -∗ Q ⟨(Scalar.xori v2 4#32), k0_pay19 v2 v81 v83 v102 v372 (chunk m c 4 0), k0_pay20 v2 v81 v83 v102 (chunk m c 4 1)⟩)
      -∗ wp frame (wpE (defs₀ (F := F)) 𝒱₀ (c : Thread nD τ) none) Set.univ
          (k0_part15 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v2 v81 v83 v102 v372 v411) Q) := by
  rw [k0_part15_eq_skeleton]; unfold k0_part15_skel
  simp only [Prog.lift, Prog.bind_op, Prog.bind_ret, Prog.pure_eq_ret]
  iintro #HS K11 L11 S11 O R40 Hk
  iapply (send_step m K c 11 4 5 1 fullShare.left 11 12 ⟨rfl, rfl, rfl, rfl, rfl, rfl⟩ _ (Fin.ext (copy_devs c 11)) _ _ (send_sem 11 _) (recv_sem 11 _)) $$ HS K11 L11 S11 O
  iintro K11 O
  iapply (load_step m c 4 0 0 rfl _) $$ R40
  iintro R40
  iapply (load_step m c 4 1 0 rfl _) $$ R40
  iintro R40
  rw [wp_ret]; imodintro
  iapply Hk $$ K11 O R40

theorem part16 (v81 : FVec F S1024x256 .bf16) (v83 : IVec S1024x1 32) (v102 : FVec F S1024x1 .f32) (v421 : BitVec 32) (v435 : FVec F S1024x512 .f32) (v448 : FVec F S1024x512 .f32) {Q : (FVec F S1024x512 .f32) → sProp 𝕄} :
    shared m K ⊢ iprop(region c 4 1 fullShare.right (full m c)
      -∗ (region c 4 1 fullShare.right (full m c) -∗ Q (k0_pay21 v81 v83 v102 v421 v435 v448 (chunk m c 4 2) (chunk m c 4 3)))
      -∗ wp frame (wpE (defs₀ (F := F)) 𝒱₀ (c : Thread nD τ) none) Set.univ
          (k0_part16 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v81 v83 v102 v421 v435 v448) Q) := by
  rw [k0_part16_eq_skeleton]; unfold k0_part16_skel
  simp only [Prog.lift, Prog.bind_op, Prog.bind_ret, Prog.pure_eq_ret]
  iintro #HS R41 Hk
  iapply (load_step m c 4 2 1 rfl _) $$ R41
  iintro R41
  iapply (load_step m c 4 3 1 rfl _) $$ R41
  iintro R41
  rw [wp_ret]; imodintro
  iapply Hk $$ R41

theorem part17 (v3 : BitVec 32) (v5 : BitVec 32) {Q : (PUnit) → sProp 𝕄} :
    shared m K ⊢ iprop(issued c 8 -∗ owing c 12 -∗ kit c 12 -∗ landing (nbr c (mask 12)) 12
      -∗ (finished c 8 -∗ owing c 13 -∗ region c 3 0 fullShare.left (full m c) -∗ region c 7 0 fullShare.right (full m c) -∗ issued c 12 -∗ Q ⟨⟩)
      -∗ wp frame (wpE (defs₀ (F := F)) 𝒱₀ (c : Thread nD τ) none) Set.univ
          (k0_part17 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v3 v5) Q) := by
  rw [k0_part17_eq_skeleton]; unfold k0_part17_skel
  simp only [Prog.lift, Prog.bind_op, Prog.bind_ret, Prog.pure_eq_ret]
  iintro #HS K8 O K12 L12 Hk
  iapply (wait_send_step m K c 8 12 (by decide) 3 0 fullShare.left ⟨rfl, rfl, rfl⟩ _ (send_sem 8 _)) $$ HS K8 O
  iintro K8 O S8
  iapply (wait_recv_step m K c 8 12 (by decide) 7 0 ⟨rfl, rfl⟩ _ (recv_sem 8 _)) $$ HS K8 O
  iintro K8 O R70
  ihave RR := (region_share c 7 0 fullShare (full m c)).1 $$ R70
  icases RR with ⟨S12, R70⟩
  iapply (send_step m K c 12 7 6 0 fullShare.left 12 13 ⟨rfl, rfl, rfl, rfl, rfl, rfl⟩ _ (Fin.ext (copy_devs c 12)) _ _ (send_sem 12 _) (recv_sem 12 _)) $$ HS K12 L12 S12 O
  iintro K12 O
  rw [wp_ret]; imodintro
  iapply Hk $$ K8 O S8 R70 K12

theorem part18 (v2 : BitVec 32) (v5 : BitVec 32) (v81 : FVec F S1024x256 .bf16) (v83 : IVec S1024x1 32) (v102 : FVec F S1024x1 .f32) (v477 : FVec F S1024x512 .f32) {Q : (Σ' (v516 : BitVec 32) (v530 : FVec F S1024x512 .f32), FVec F S1024x256 .bf16) → sProp 𝕄} :
    shared m K ⊢ iprop(issued c 9 -∗ owing c 13 -∗ region c 7 0 fullShare.right (full m c)
      -∗ (finished c 9 -∗ owing c 13 -∗ region c 3 1 fullShare.left (full m c) -∗ region c 7 1 fullShare (full m c) -∗ region c 7 0 fullShare.right (full m c) -∗ Q ⟨(Scalar.xori v2 7#32), k0_pay22 v2 v81 v83 v102 v477 (chunk m c 7 0), k0_pay23 v2 v81 v83 v102⟩)
      -∗ wp frame (wpE (defs₀ (F := F)) 𝒱₀ (c : Thread nD τ) none) Set.univ
          (k0_part18 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v2 v5 v81 v83 v102 v477) Q) := by
  rw [k0_part18_eq_skeleton]; unfold k0_part18_skel
  simp only [Prog.lift, Prog.bind_op, Prog.bind_ret, Prog.pure_eq_ret]
  iintro #HS K9 O R70 Hk
  iapply (wait_send_step m K c 9 13 (by decide) 3 1 fullShare.left ⟨rfl, rfl, rfl⟩ _ (send_sem 9 _)) $$ HS K9 O
  iintro K9 O S9
  iapply (wait_recv_step m K c 9 13 (by decide) 7 1 ⟨rfl, rfl⟩ _ (recv_sem 9 _)) $$ HS K9 O
  iintro K9 O R71
  iapply (load_step m c 7 0 0 rfl _) $$ R70
  iintro R70
  rw [wp_ret]; imodintro
  iapply Hk $$ K9 O S9 R71 R70

end Cert.Moe

end
-- ==== Proof.PartsC.lean ====
/-
The kernel's body, part by part, continued.
-/
module

public import proofs.«01_k».proof.Proof.PartsA

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KC → ℕ) (c : Dev nD)

/-! ## The parts -/

theorem part19 (v81 : FVec F S1024x256 .bf16) (v83 : IVec S1024x1 32) (v102 : FVec F S1024x1 .f32) (v516 : BitVec 32) (v530 : FVec F S1024x512 .f32) (v540 : FVec F S1024x256 .bf16) {Q : (FVec F S1024x512 .f32) → sProp 𝕄} :
    shared m K ⊢ iprop(region c 7 0 fullShare.right (full m c) -∗ region c 7 1 fullShare (full m c)
      -∗ (region c 7 0 fullShare.right (full m c) -∗ region c 7 1 fullShare (full m c) -∗ Q (k0_pay24 v81 v83 v102 v516 v530 v540 (chunk m c 7 1) (chunk m c 7 2) (chunk m c 7 3)))
      -∗ wp frame (wpE (defs₀ (F := F)) 𝒱₀ (c : Thread nD τ) none) Set.univ
          (k0_part19 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v81 v83 v102 v516 v530 v540) Q) := by
  rw [k0_part19_eq_skeleton]; unfold k0_part19_skel
  simp only [Prog.lift, Prog.bind_op, Prog.bind_ret, Prog.pure_eq_ret]
  iintro #HS R70 R71 Hk
  iapply (load_step m c 7 1 0 rfl _) $$ R70
  iintro R70
  iapply (load_step m c 7 2 1 rfl _) $$ R71
  iintro R71
  iapply (load_step m c 7 3 1 rfl _) $$ R71
  iintro R71
  rw [wp_ret]; imodintro
  iapply Hk $$ R70 R71

theorem part20 (v3 : BitVec 32) (v4 : BitVec 32) {Q : (PUnit) → sProp 𝕄} :
    shared m K ⊢ iprop(issued c 11 -∗ owing c 13 -∗ kit c 13 -∗ landing (nbr c (mask 13)) 13
      -∗ (finished c 11 -∗ owing c 14 -∗ region c 4 1 fullShare.left (full m c) -∗ region c 5 1 fullShare.right (full m c) -∗ issued c 13 -∗ Q ⟨⟩)
      -∗ wp frame (wpE (defs₀ (F := F)) 𝒱₀ (c : Thread nD τ) none) Set.univ
          (k0_part20 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 c v3 v4) Q) := by
  rw [k0_part20_eq_skeleton]; unfold k0_part20_skel
  simp only [Prog.lift, Prog.bind_op, Prog.bind_ret, Prog.pure_eq_ret]
  iintro #HS K11 O K13 L13 Hk
  iapply (wait_send_step m K c 11 13 (by decide) 4 1 fullShare.left ⟨rfl, rfl, rfl⟩ _ (send_sem 11 _)) $$ HS K11 O
  iintro K11 O S11
  iapply (wait_recv_step m K c 11 13 (by decide) 5 1 ⟨rfl, rfl⟩ _ (recv_sem 11 _)) $$ HS K11 O
  iintro K11 O R51
  ihave RR := (region_share c 5 1 fullShare (full m c)).1 $$ R51
  icases RR with ⟨S13, R51⟩
  iapply (send_step m K c 13 5 6 1 fullShare.left 13 14 ⟨rfl, rfl, rfl, rfl, rfl, rfl⟩ _ (Fin.ext (copy_devs c 13)) _ _ (send_sem 13 _) (recv_sem 13 _)) $$ HS K13 L13 S13 O
  iintro K13 O
  rw [wp_ret]; imodintro
  iapply Hk $$ K11 O S11 R51 K13

theorem part21 (v2 : BitVec 32) (v3 : BitVec 32) (v81 : FVec F S1024x256 .bf16) (v83 : IVec S1024x1 32) (v102 : FVec F S1024x1 .f32) (v572 : FVec F S1024x512 .f32) {Q : (Σ' (v611 : BitVec 32) (v625 : FVec F S1024x512 .f32), IVec S1024x1 1) → sProp 𝕄} :
    shared m K ⊢ iprop(issued c 10 -∗ owing c 14
      -∗ (finished c 10 -∗ owing c 14 -∗ region c 4 0 fullShare.left (full m c) -∗ region c 5 0 fullShare (full m c) -∗ Q ⟨(Scalar.xori v2 5#32), k0_pay25 v2 v81 v83 v102 v572 (chunk m c 5 0), k0_pay26 v2 v83⟩)
      -∗ wp frame (wpE (defs₀ (F := F)) 𝒱₀ (c : Thread nD τ) none) Set.univ
          (k0_part21 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v2 v3 v81 v83 v102 v572) Q) := by
  rw [k0_part21_eq_skeleton]; unfold k0_part21_skel
  simp only [Prog.lift, Prog.bind_op, Prog.bind_ret, Prog.pure_eq_ret]
  iintro #HS K10 O Hk
  iapply (wait_send_step m K c 10 14 (by decide) 4 0 fullShare.left ⟨rfl, rfl, rfl⟩ _ (send_sem 10 _)) $$ HS K10 O
  iintro K10 O S10
  iapply (wait_recv_step m K c 10 14 (by decide) 5 0 ⟨rfl, rfl⟩ _ (recv_sem 10 _)) $$ HS K10 O
  iintro K10 O R50
  iapply (load_step m c 5 0 0 rfl _) $$ R50
  iintro R50
  rw [wp_ret]; imodintro
  iapply Hk $$ K10 O S10 R50

theorem part22 (v81 : FVec F S1024x256 .bf16) (v83 : IVec S1024x1 32) (v102 : FVec F S1024x1 .f32) (v611 : BitVec 32) (v625 : FVec F S1024x512 .f32) (v629 : IVec S1024x1 1) {Q : (FVec F S1024x512 .f32) → sProp 𝕄} :
    shared m K ⊢ iprop(region c 5 0 fullShare (full m c) -∗ region c 5 1 fullShare.right (full m c)
      -∗ (region c 5 0 fullShare (full m c) -∗ region c 5 1 fullShare.right (full m c) -∗ Q (k0_pay27 v81 v83 v102 v611 v625 v629 (chunk m c 5 1) (chunk m c 5 2) (chunk m c 5 3)))
      -∗ wp frame (wpE (defs₀ (F := F)) 𝒱₀ (c : Thread nD τ) none) Set.univ
          (k0_part22 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v81 v83 v102 v611 v625 v629) Q) := by
  rw [k0_part22_eq_skeleton]; unfold k0_part22_skel
  simp only [Prog.lift, Prog.bind_op, Prog.bind_ret, Prog.pure_eq_ret]
  iintro #HS R50 R51 Hk
  iapply (load_step m c 5 1 0 rfl _) $$ R50
  iintro R50
  iapply (load_step m c 5 2 1 rfl _) $$ R51
  iintro R51
  iapply (load_step m c 5 3 1 rfl _) $$ R51
  iintro R51
  rw [wp_ret]; imodintro
  iapply Hk $$ R50 R51

theorem part23 (v4 : BitVec 32) {Q : (BitVec 32) → sProp 𝕄} :
    shared m K ⊢ iprop(issued c 6 -∗ owing c 14 -∗ issued c 7
      -∗ (finished c 6 -∗ owing c 14 -∗ region c 1 0 fullShare.left (full m c) -∗ region c 2 0 fullShare (full m c) -∗ sent c 7 -∗ region c 1 1 fullShare.left (full m c) -∗ Q (Scalar.muli v4 1#32))
      -∗ wp frame (wpE (defs₀ (F := F)) 𝒱₀ (c : Thread nD τ) none) Set.univ
          (k0_part23 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v4) Q) := by
  rw [k0_part23_eq_skeleton]; unfold k0_part23_skel
  simp only [Prog.lift, Prog.bind_op, Prog.bind_ret, Prog.pure_eq_ret]
  iintro #HS K6 O K7 Hk
  iapply (wait_send_step m K c 6 14 (by decide) 1 0 fullShare.left ⟨rfl, rfl, rfl⟩ _ (send_sem 6 _)) $$ HS K6 O
  iintro K6 O S6
  iapply (wait_recv_step m K c 6 14 (by decide) 2 0 ⟨rfl, rfl⟩ _ (recv_sem 6 _)) $$ HS K6 O
  iintro K6 O R20
  iapply (wait_send_step m K c 7 14 (by decide) 1 1 fullShare.left ⟨rfl, rfl, rfl⟩ _ (send_sem 7 _)) $$ HS K7 O
  iintro K7 O S7
  rw [wp_ret]; imodintro
  iapply Hk $$ K6 O S6 R20 K7 S7

theorem part24 (v2 : BitVec 32) (v81 : FVec F S1024x256 .bf16) (v83 : IVec S1024x1 32) (v102 : FVec F S1024x1 .f32) (v667 : FVec F S1024x512 .f32) (v688 : BitVec 32) {Q : (Σ' (v696 : BitVec 32) (v724 : FVec F S1024x512 .f32), BitVec 32) → sProp 𝕄} :
    shared m K ⊢ iprop(sent c 7 -∗ owing c 14 -∗ region c 2 0 fullShare (full m c)
      -∗ (finished c 7 -∗ owing c 14 -∗ region c 2 1 fullShare (full m c) -∗ region c 2 0 fullShare (full m c) -∗ Q ⟨(Scalar.xori v2 2#32), k0_pay28 v2 v81 v83 v102 v667 (chunk m c 2 0) (chunk m c 2 1), 4#32⟩)
      -∗ wp frame (wpE (defs₀ (F := F)) 𝒱₀ (c : Thread nD τ) none) Set.univ
          (k0_part24 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v2 v81 v83 v102 v667 v688) Q) := by
  rw [k0_part24_eq_skeleton]; unfold k0_part24_skel
  simp only [Prog.lift, Prog.bind_op, Prog.bind_ret, Prog.pure_eq_ret]
  iintro #HS K7 O R20 Hk
  iapply (wait_recv_step m K c 7 14 (by decide) 2 1 ⟨rfl, rfl⟩ _ (recv_sem 7 _)) $$ HS K7 O
  iintro K7 O R21
  iapply (load_step m c 2 0 0 rfl _) $$ R20
  iintro R20
  iapply (load_step m c 2 1 0 rfl _) $$ R20
  iintro R20
  rw [wp_ret]; imodintro
  iapply Hk $$ K7 O R21 R20

theorem part25 (v81 : FVec F S1024x256 .bf16) (v83 : IVec S1024x1 32) (v102 : FVec F S1024x1 .f32) (v696 : BitVec 32) (v724 : FVec F S1024x512 .f32) (c4_i32_647 : BitVec 32) {Q : (FVec F S1024x512 .f32) → sProp 𝕄} :
    shared m K ⊢ iprop(region c 2 1 fullShare (full m c) -∗ issued c 12 -∗ owing c 14
      -∗ (region c 2 1 fullShare (full m c) -∗ sent c 12 -∗ owing c 14 -∗ region c 7 0 fullShare.left (full m c) -∗ Q (k0_pay29 v81 v83 v102 v696 v724 c4_i32_647 (chunk m c 2 2) (chunk m c 2 3)))
      -∗ wp frame (wpE (defs₀ (F := F)) 𝒱₀ (c : Thread nD τ) none) Set.univ
          (k0_part25 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v81 v83 v102 v696 v724 c4_i32_647) Q) := by
  rw [k0_part25_eq_skeleton]; unfold k0_part25_skel
  simp only [Prog.lift, Prog.bind_op, Prog.bind_ret, Prog.pure_eq_ret]
  iintro #HS R21 K12 O Hk
  iapply (load_step m c 2 2 1 rfl _) $$ R21
  iintro R21
  iapply (load_step m c 2 3 1 rfl _) $$ R21
  iintro R21
  iapply (wait_send_step m K c 12 14 (by decide) 7 0 fullShare.left ⟨rfl, rfl, rfl⟩ _ (send_sem 12 _)) $$ HS K12 O
  iintro K12 O S12
  rw [wp_ret]; imodintro
  iapply Hk $$ R21 K12 O S12

theorem part26 (v3 : BitVec 32) (v4 : BitVec 32) {Q : (BitVec 32) → sProp 𝕄} :
    shared m K ⊢ iprop(sent c 12 -∗ owing c 14 -∗ issued c 13
      -∗ (finished c 12 -∗ owing c 14 -∗ region c 6 0 fullShare (full m c) -∗ finished c 13 -∗ region c 5 1 fullShare.left (full m c) -∗ region c 6 1 fullShare (full m c) -∗ Q 6#32)
      -∗ wp frame (wpE (defs₀ (F := F)) 𝒱₀ (c : Thread nD τ) none) Set.univ
          (k0_part26 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v3 v4) Q) := by
  rw [k0_part26_eq_skeleton]; unfold k0_part26_skel
  simp only [Prog.lift, Prog.bind_op, Prog.bind_ret, Prog.pure_eq_ret]
  iintro #HS K12 O K13 Hk
  iapply (wait_recv_step m K c 12 14 (by decide) 6 0 ⟨rfl, rfl⟩ _ (recv_sem 12 _)) $$ HS K12 O
  iintro K12 O R60
  iapply (wait_send_step m K c 13 14 (by decide) 5 1 fullShare.left ⟨rfl, rfl, rfl⟩ _ (send_sem 13 _)) $$ HS K13 O
  iintro K13 O S13
  iapply (wait_recv_step m K c 13 14 (by decide) 6 1 ⟨rfl, rfl⟩ _ (recv_sem 13 _)) $$ HS K13 O
  iintro K13 O R61
  rw [wp_ret]; imodintro
  iapply Hk $$ K12 O R60 K13 S13 R61

theorem part27 (v2 : BitVec 32) (v81 : FVec F S1024x256 .bf16) (v83 : IVec S1024x1 32) (v102 : FVec F S1024x1 .f32) (v752 : FVec F S1024x512 .f32) (c6_i32_707 : BitVec 32) {Q : (Σ' (v781 : BitVec 32) (v809 : FVec F S1024x512 .f32) (v819 : FVec F S1024x256 .bf16), Vec F S1x1x256x512 .bf16) → sProp 𝕄} :
    shared m K ⊢ iprop(region c 6 0 fullShare (full m c) -∗ region c 6 1 fullShare (full m c)
      -∗ (region c 6 0 fullShare (full m c) -∗ region c 6 1 fullShare (full m c) -∗ Q ⟨(Scalar.xori v2 c6_i32_707), k0_pay30 v2 v81 v83 v102 v752 c6_i32_707 (chunk m c 6 0) (chunk m c 6 1), k0_pay31 v2 v81 v83 v102 c6_i32_707, (chunk m c 6 2)⟩)
      -∗ wp frame (wpE (defs₀ (F := F)) 𝒱₀ (c : Thread nD τ) none) Set.univ
          (k0_part27 (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2 v2 v81 v83 v102 v752 c6_i32_707) Q) := by
  rw [k0_part27_eq_skeleton]; unfold k0_part27_skel
  simp only [Prog.lift, Prog.bind_op, Prog.bind_ret, Prog.pure_eq_ret]
  iintro #HS R60 R61 Hk
  iapply (load_step m c 6 0 0 rfl _) $$ R60
  iintro R60
  iapply (load_step m c 6 1 0 rfl _) $$ R60
  iintro R60
  iapply (load_step m c 6 2 1 rfl _) $$ R61
  iintro R61
  rw [wp_ret]; imodintro
  iapply Hk $$ R60 R61

end Cert.Moe

end
-- ==== Proof.Body.lean ====
/-
The kernel's whole body on one device: from what the launch hands the device to the finished exchange and the result.
-/
module

public import proofs.«01_k».proof.Proof.PartsB
public import proofs.«01_k».proof.Proof.PartsC
public import proofs.«01_k».proof.Proof.Gen.KernelIdeal.Points

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × KC → ℕ) (c : Dev nD)

/-! ## The result -/

/-- What the kernel leaves in its result's staging buffer on device `c`: the payloads composed, the weights read from the
    slots standing for what the exchange brought. -/
def outAt : (cc0_stg5_0 : Ref sig .tc).ty.Contents (Elt F) :=
  let v2 := word c
  let v81 := k0_pay4 (xstg m c)
  let v83 := k0_pay5 (istg m c)
  let v102 := k0_pay6 (xstg m c) (istg m c) (rstg m c)
  let v105 := k0_pay7 (xstg m c) (wstg m c)
  let v106 := Scalar.xori v2 0#32
  let v115 := k0_pay8 v2 (xstg m c) (istg m c) (rstg m c)
  let v148 := k0_pay9 v81 v83 v102 v105 v106 v115 (chunk m c 0 0) (chunk m c 0 1) (chunk m c 0 2)
  let v154 := k0_pay10 (F := F) v83 v106
  let v162 := k0_pay11 v81 v102 v148 v154 (chunk m c 0 3)
  let v211 := Scalar.xori v2 1#32
  let v225 := k0_pay12 v2 v81 v83 v102 v162 (chunk m c 1 0)
  let v238 := k0_pay13 v2 v81 v83 v102 (chunk m c 1 1)
  let v267 := k0_pay14 v81 v83 v102 v211 v225 v238 (chunk m c 1 2) (chunk m c 1 3)
  let v316 := Scalar.xori v2 3#32
  let v325 := k0_pay15 v2 v83 v102
  let v358 := k0_pay16 v81 v83 v102 v267 v316 v325 (chunk m c 3 0) (chunk m c 3 1) (chunk m c 3 2)
  let v364 := k0_pay17 (F := F) v83 v316
  let v372 := k0_pay18 v81 v102 v358 v364 (chunk m c 3 3)
  let v421 := Scalar.xori v2 4#32
  let v435 := k0_pay19 v2 v81 v83 v102 v372 (chunk m c 4 0)
  let v448 := k0_pay20 v2 v81 v83 v102 (chunk m c 4 1)
  let v477 := k0_pay21 v81 v83 v102 v421 v435 v448 (chunk m c 4 2) (chunk m c 4 3)
  let v516 := Scalar.xori v2 7#32
  let v530 := k0_pay22 v2 v81 v83 v102 v477 (chunk m c 7 0)
  let v540 := k0_pay23 v2 v81 v83 v102
  let v572 := k0_pay24 v81 v83 v102 v516 v530 v540 (chunk m c 7 1) (chunk m c 7 2) (chunk m c 7 3)
  let v611 := Scalar.xori v2 5#32
  let v625 := k0_pay25 v2 v81 v83 v102 v572 (chunk m c 5 0)
  let v629 := k0_pay26 v2 v83
  let v667 := k0_pay27 v81 v83 v102 v611 v625 v629 (chunk m c 5 1) (chunk m c 5 2) (chunk m c 5 3)
  let v696 := Scalar.xori v2 2#32
  let v724 := k0_pay28 v2 v81 v83 v102 v667 (chunk m c 2 0) (chunk m c 2 1)
  let c4_i32_647 := 4#32
  let v752 := k0_pay29 v81 v83 v102 v696 v724 c4_i32_647 (chunk m c 2 2) (chunk m c 2 3)
  let c6_i32_707 := 6#32
  let v781 := Scalar.xori v2 c6_i32_707
  let v809 := k0_pay30 v2 v81 v83 v102 v752 c6_i32_707 (chunk m c 6 0) (chunk m c 6 1)
  let v819 := k0_pay31 v2 v81 v83 v102 c6_i32_707
  let v820 := chunk m c 6 2
  k0_pay1 v81 v83 v102 v781 v809 v819 v820 (chunk m c 6 3)

/-! ## The shares of slot 0 -/

/-- Half of slot 0 in four: a share for each of the three copies that read it, one for the device's own loads. -/
theorem quarters (s : Fin 8) (h : Fin 2) (f : Buf (Elt F) ((c : Thread nD τ).loc cc0_scratch0)) :
    (region c s h fullShare f : sProp 𝕄) ⊣⊢ iprop(region c s h fullShare.left.left f ∗ region c s h fullShare.left.right f
      ∗ region c s h fullShare.right.left f ∗ region c s h fullShare.right.right f) := by
  constructor
  · iintro H
    ihave H := (region_share c s h fullShare f).1 $$ H
    icases H with ⟨A, B⟩
    ihave A := (region_share c s h fullShare.left f).1 $$ A
    ihave B := (region_share c s h fullShare.right f).1 $$ B
    icases A with ⟨A1, A2⟩
    icases B with ⟨B1, B2⟩
    isplitl [A1]; · iexact A1
    isplitl [A2]; · iexact A2
    isplitl [B1] <;> iassumption
  · iintro ⟨A1, A2, B1, B2⟩
    iapply (region_share c s h fullShare f).2
    isplitl [A1 A2]
    · iapply (region_share c s h fullShare.left f).2
      isplitl [A1] <;> iassumption
    · iapply (region_share c s h fullShare.right f).2
      isplitl [B1] <;> iassumption

/-! ## The run -/

theorem write_out (f w : (cc0_stg5_0 : Ref sig .tc).ty.Contents (Elt F)) :
    ((Memref.whole cc0_stg5_0 : Memref sig .tc _ _ _).access (Rect.unit (s := S1024x512) ![0, 0] S1024x512.size inb_S1024x512_S1024x512_0_0) : View sig .tc _ _ _).write
      (Elt F) f w Finset.univ = w :=
  Memref.write_access_unit_zero_univ (Elt F) cc0_stg5_0 zero2 _ f w

set_option maxHeartbeats 4000000 in
/-- The body, part after part. -/
theorem body_run (f : Buf (Elt F) ((c : Thread nD τ).loc cc0_scratch0)) (W : Waits sig Unit) (g : (cc0_stg5_0 : Ref sig .tc).ty.Contents (Elt F))
    {Kt : PUnit → sProp 𝕄} :
    shared m K ⊢ iprop(atPos ER (barCell c) 0 ∅ 0 -∗ dutyTok ER (barCell (nbr c 1)) 0 1 -∗ dutyTok ER (barCell (nbr c 3)) 0 3
      -∗ dutyTok ER (barCell (nbr c 4)) 0 4 -∗ cred (tallyAt (barCell c) () 3) -∗ bigSep Finset.univ (kit c)
      -∗ (((c : Thread nD τ).loc cc0_scratch0) ↦{fullShare} f) -∗ owes (c : Thread nD τ) (owed0 c) W
      -∗ stX c (xstg m c) -∗ stR c (rstg m c) -∗ stI c (istg m c) -∗ stE c (estg m c) -∗ stW c (wstg m c) -∗ stO c g
      -∗ ((((c : Thread nD τ).loc cc0_scratch0) ↦{fullShare} full m c) -∗ bigSep Finset.univ (finished c) -∗ semVal (barCell c) 0 -∗ owing c 14
        -∗ stX c (xstg m c) -∗ stR c (rstg m c) -∗ stI c (istg m c) -∗ stE c (estg m c) -∗ stW c (wstg m c) -∗ stO c (outAt m c) -∗ Kt ⟨⟩)
      -∗ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2) Kt) := by
  rw [cc0_body_eq_skeleton, fin14, fin14]; unfold cc0_body_skel
  iintro #HS Hp T1 T3 T4 Hc HK Hscr HO hX hR hI hE hW hO Hk
  icases HK with ⟨K0, K1, K2, K3, K4, K5, K6, K7, K8, K9, K10, K11, K12, K13⟩
  rw [wp_bind]
  iapply (part1 m K c f W) $$ HS Hp T1 T3 T4 Hc Hscr HO hE
  iintro Hv R00 R01 HL O hE
  ihave HL := (Entails.of_eq (fin14 (F := F) _)) $$ HL
  icases HL with ⟨L0, L1, L2, L3, L4, L5, L6, L7, L8, L9, L10, L11, L12, L13⟩
  ihave R00 := (quarters c 0 0 (full m c)).1 $$ R00
  icases R00 with ⟨S0, S2, S4, R00⟩
  ihave R01 := (quarters c 0 1 (full m c)).1 $$ R01
  icases R01 with ⟨S1, S3, S5, R01⟩
  rw [wp_bind]
  iapply (part2 m K c _ _) $$ HS K0 L0 S0 O K1 L1 S1 K2 L2 S2
  iintro K0 O K1 K2
  rw [wp_bind]
  iapply (part3 m K c _ _) $$ HS K3 L3 S3 O K4 L4 S4
  iintro K3 O K4
  rw [wp_bind]
  iapply (part4 m K c _) $$ HS K5 L5 S5 O hX hI hR hW
  iintro K5 O hX hI hR hW
  rw [wp_bind]
  iapply (part5 m K c _ _ _ _ _ _) $$ HS R00 R01
  iintro R00 R01
  rw [wp_bind]
  iapply (part6 m K c _ _ _ _ _ _) $$ HS R01 K0 O
  iintro R01 K0 O S0 R10 S6
  rw [wp_bind]
  iapply (part7 m K c _ _) $$ HS K6 L6 S6 O K1
  iintro K6 O K1 S1 R11 S7
  rw [wp_bind]
  iapply (part8 m K c _ _ _ _ _ _) $$ HS K7 L7 S7 O R10
  iintro K7 O R10
  rw [wp_bind]
  iapply (part9 m K c _ _ _ _ _ _) $$ HS R11
  iintro R11
  rw [wp_bind]
  iapply (part10 m K c _ _) $$ HS K2 O K8 L8
  iintro K2 O S2 R30 K8
  rw [wp_bind]
  iapply (part11 m K c _ _ _ _ _) $$ HS K3 O K9 L9
  iintro K3 O S3 R31 K9
  rw [wp_bind]
  iapply (part12 m K c _ _ _ _ _ _) $$ HS R30 R31
  iintro R30 R31
  rw [wp_bind]
  iapply (part13 m K c _ _ _ _ _ _) $$ HS R31 K4 O
  iintro R31 K4 O S4 R40 S10
  rw [wp_bind]
  iapply (part14 m K c _ _) $$ HS K10 L10 S10 O K5
  iintro K10 O K5 S5 R41 S11
  rw [wp_bind]
  iapply (part15 m K c _ _ _ _ _ _) $$ HS K11 L11 S11 O R40
  iintro K11 O R40
  rw [wp_bind]
  iapply (part16 m K c _ _ _ _ _ _) $$ HS R41
  iintro R41
  rw [wp_bind]
  iapply (part17 m K c _ _) $$ HS K8 O K12 L12
  iintro K8 O S8 R70 K12
  rw [wp_bind]
  iapply (part18 m K c _ _ _ _ _ _) $$ HS K9 O R70
  iintro K9 O S9 R71 R70
  rw [wp_bind]
  iapply (part19 m K c _ _ _ _ _ _) $$ HS R70 R71
  iintro R70 R71
  rw [wp_bind]
  iapply (part20 m K c _ _) $$ HS K11 O K13 L13
  iintro K11 O S11 R51 K13
  rw [wp_bind]
  iapply (part21 m K c _ _ _ _ _ _) $$ HS K10 O
  iintro K10 O S10 R50
  rw [wp_bind]
  iapply (part22 m K c _ _ _ _ _ _) $$ HS R50 R51
  iintro R50 R51
  rw [wp_bind]
  iapply (part23 m K c _) $$ HS K6 O K7
  iintro K6 O S6 R20 K7 S7
  rw [wp_bind]
  iapply (part24 m K c _ _ _ _ _ _) $$ HS K7 O R20
  iintro K7 O R21 R20
  rw [wp_bind]
  iapply (part25 m K c _ _ _ _ _ _) $$ HS R21 K12 O
  iintro R21 K12 O S12
  rw [wp_bind]
  iapply (part26 m K c _ _) $$ HS K12 O K13
  iintro K12 O R60 K13 S13 R61
  rw [wp_bind]
  iapply (part27 m K c _ _ _ _ _ _) $$ HS R60 R61
  iintro R60 R61
  simp only [Prog.lift, Prog.bind_op, Prog.bind_ret, Prog.pure_eq_ret]
  iapply (load_step m c 6 3 1 rfl _) $$ R61
  iintro R61
  iapply (wp_load 𝒱₀ (c : Thread nD τ) none Set.univ (m := Memref.whole cc0_stg5_0) (Finset.subset_univ _)) $$ hO
  iintro hO
  iapply (wp_store 𝒱₀ (c : Thread nD τ) none Set.univ (m := Memref.whole cc0_stg5_0)
    (r := Rect.unit (s := S1024x512) ![0, 0] S1024x512.size inb_S1024x512_S1024x512_0_0) (Mk := Finset.univ) (Finset.subset_univ _)) $$ hO
  iintro hO
  rw [write_out, wp_ret]; imodintro
  ihave R10 := (region_share c 1 0 fullShare (full m c)).2 $$ [S6 R10]
  · isplitl [S6] <;> iassumption
  ihave R11 := (region_share c 1 1 fullShare (full m c)).2 $$ [S7 R11]
  · isplitl [S7] <;> iassumption
  ihave R30 := (region_share c 3 0 fullShare (full m c)).2 $$ [S8 R30]
  · isplitl [S8] <;> iassumption
  ihave R31 := (region_share c 3 1 fullShare (full m c)).2 $$ [S9 R31]
  · isplitl [S9] <;> iassumption
  ihave R40 := (region_share c 4 0 fullShare (full m c)).2 $$ [S10 R40]
  · isplitl [S10] <;> iassumption
  ihave R41 := (region_share c 4 1 fullShare (full m c)).2 $$ [S11 R41]
  · isplitl [S11] <;> iassumption
  ihave R70 := (region_share c 7 0 fullShare (full m c)).2 $$ [S12 R70]
  · isplitl [S12] <;> iassumption
  ihave R51 := (region_share c 5 1 fullShare (full m c)).2 $$ [S13 R51]
  · isplitl [S13] <;> iassumption
  ihave R00 := (quarters c 0 0 (full m c)).2 $$ [S0 S2 S4 R00]
  · isplitl [S0]; · iexact S0
    isplitl [S2]; · iexact S2
    isplitl [S4] <;> iassumption
  ihave R01 := (quarters c 0 1 (full m c)).2 $$ [S1 S3 S5 R01]
  · isplitl [S1]; · iexact S1
    isplitl [S3]; · iexact S3
    isplitl [S5] <;> iassumption
  iapply Hk $$ [R00 R01 R10 R11 R30 R31 R40 R41 R20 R21 R70 R71 R50 R51 R60 R61] [K0 K1 K2 K3 K4 K5 K6 K7 K8 K9 K10 K11 K12 K13] Hv O hX hR hI hE hW [hO]
  · rw [slots_listed]
    isplitl [R00 R01]
    · isplitl [R00] <;> iassumption
    isplitl [R10]; · iexact R10
    isplitl [R11]; · iexact R11
    isplitl [R30]; · iexact R30
    isplitl [R31]; · iexact R31
    isplitl [R40]; · iexact R40
    isplitl [R41]; · iexact R41
    isplitl [R20]; · iexact R20
    isplitl [R21]; · iexact R21
    isplitl [R70]; · iexact R70
    isplitl [R71]; · iexact R71
    isplitl [R50]; · iexact R50
    isplitl [R51]; · iexact R51
    isplitl [R60]; · iexact R60
    iexact R61
  · isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [K8]; · iexact K8
    isplitl [K9]; · iexact K9
    isplitl [K10]; · iexact K10
    isplitl [K11]; · iexact K11
    isplitl [K12]; · iexact K12
    iexact K13
  · unfold outAt; dsimp only; iexact hO

end Cert.Moe

end
-- ==== Proof.Launch.lean ====
/-
The launch: the exchange's state made for all eight devices at once and dealt out, the body's run put under the pipeline's
theorem, and what every execution of the program ends in.
-/
module

public import proofs.«01_k».proof.Proof.Body
public import proofs.«01_k».proof.Proof.Gen.KernelIdeal.Launch
public import Idealize.ShloMosaic.Lib.Pipeline.Launch
public import Idealize.ShloMosaic.Lib.Pipeline.CollectiveSegs

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-! ## What the launch hands each device -/

/-- What device `c` starts the exchange with besides its credit: its positions at its own cells and the tokens of the duties
    it pays — a signal to each of three neighbours and, for each copy, one duty at its own send cell and one at the
    neighbour's receive cell. -/
def opening : sProp 𝕄 :=
  iprop(atPos ER (barCell c) 0 ∅ 0 ∗ (dutyTok ER (barCell (nbr c 1)) 0 1 ∗ dutyTok ER (barCell (nbr c 3)) 0 3 ∗ dutyTok ER (barCell (nbr c 4)) 0 4)
    ∗ (bigSep Finset.univ fun k => atPos ER (sendCell c k) 0 ∅ 0) ∗ (bigSep Finset.univ fun k => atPos ER (recvCell c k) 0 ∅ 0)
    ∗ (bigSep Finset.univ fun k => dutyTok ER (sendCell c k) 0 0) ∗ bigSep Finset.univ fun k => dutyTok ER (recvCell (nbr c (mask k)) k) 0 0)

/-- The credit for what the other devices owe device `c`'s cells. -/
def credit : sProp 𝕄 := iprop(cred (tallyAt (barCell c) () 3) ∗ bigSep Finset.univ fun k => cred (tallyAt (recvCell c k) () N))

def start : sProp 𝕄 := iprop((∃ K, records m K ∗ opening c) ∗ credit c ∗ levAts L lv)

def Φ₀ : sProp 𝕄 := iprop(start m c ∗ ∃ f : Buf (Elt F) ((c : Thread nD τ).loc cc0_scratch0), ((c : Thread nD τ).loc cc0_scratch0) ↦{fullShare} f)
/-- Afterwards: every slot filled, every cell closed. -/
def Φ₁ : sProp 𝕄 := iprop((((c : Thread nD τ).loc cc0_scratch0) ↦{fullShare} full m c) ∗ bigSep Finset.univ (finished c) ∗ semVal (barCell c) 0)

theorem kits : iprop((bigSep Finset.univ fun k => atPos ER (sendCell c k) 0 ∅ 0) ∗ (bigSep Finset.univ fun k => atPos ER (recvCell c k) 0 ∅ 0)
    ∗ (bigSep Finset.univ fun k => dutyTok ER (sendCell c k) 0 0) ∗ (bigSep Finset.univ fun k => dutyTok ER (recvCell (nbr c (mask k)) k) 0 0)
    ∗ bigSep Finset.univ fun k => cred (tallyAt (recvCell c k) () N)) ⊢ (bigSep Finset.univ (kit c) : sProp 𝕄) := by
  unfold kit; simp only [bigSep_sep']; exact Entails.refl _

/-! ## The body against the pipeline -/

variable (ρ : Dev nD → PrngReg)

theorem one_point : cfg0.N = 1 := by decide
def pt : Fin cfg0.N := ⟨0, by rw [one_point]; decide⟩
theorem only_pt (t : Fin cfg0.N) : t = pt := by
  obtain ⟨t, ht⟩ := t; have := one_point; exact Fin.ext (by simp only [pt]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => rstg m c
    | ⟨2, _⟩ => istg m c
    | ⟨3, _⟩ => estg m c
    | ⟨4, _⟩ => wstg m c
    | ⟨5, _⟩ => outAt m c
  Φ t := match t with
    | ⟨0, _⟩ => Φ₀ m c
    | ⟨_ + 1, _⟩ => Φ₁ m c
  q _ := fullShare
  owed t := match t with
    | ⟨0, _⟩ => owed0 c
    | ⟨_ + 1, _⟩ => 0

theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 20000 in
def bodyPre : sProp 𝕄 :=
  iprop(Φ₀ m c ∗ (dats m ρ 0 c).owesAt () pt.castSucc
    ∗ (∃ d, stg c cc0_stg0_0 ((dats m ρ 0 c).before (0 : Fin 6) pt d)) ∗ (∃ d, stg c cc0_stg1_0 ((dats m ρ 0 c).before (1 : Fin 6) pt d))
    ∗ (∃ d, stg c cc0_stg2_0 ((dats m ρ 0 c).before (2 : Fin 6) pt d)) ∗ (∃ d, stg c cc0_stg3_0 ((dats m ρ 0 c).before (3 : Fin 6) pt d))
    ∗ (∃ d, stg c cc0_stg4_0 ((dats m ρ 0 c).before (4 : Fin 6) pt d)) ∗ (∃ d, stg c cc0_stg5_0 ((dats m ρ 0 c).before (5 : Fin 6) pt d)))

def bodyPost : sProp 𝕄 :=
  iprop(Φ₁ m c ∗ (dats m ρ 0 c).owesAt () pt.succ ∗ stg c cc0_stg0_0 (xstg m c) ∗ stg c cc0_stg1_0 (rstg m c) ∗ stg c cc0_stg2_0 (istg m c)
    ∗ stg c cc0_stg3_0 (estg m c) ∗ stg c cc0_stg4_0 (wstg m c) ∗ stg c cc0_stg5_0 (outAt m c))

theorem before_0 (d) : (dats m ρ 0 c).before (0 : Fin 6) pt d = xstg m c := by unfold Dat.before; rw [if_pos (fetch0_0 pt)]; rfl
theorem before_1 (d) : (dats m ρ 0 c).before (1 : Fin 6) pt d = rstg m c := by unfold Dat.before; rw [if_pos (fetch0_1 pt)]; rfl
theorem before_2 (d) : (dats m ρ 0 c).before (2 : Fin 6) pt d = istg m c := by unfold Dat.before; rw [if_pos (fetch0_2 pt)]; rfl
theorem before_3 (d) : (dats m ρ 0 c).before (3 : Fin 6) pt d = estg m c := by unfold Dat.before; rw [if_pos (fetch0_3 pt)]; rfl
theorem before_4 (d) : (dats m ρ 0 c).before (4 : Fin 6) pt d = wstg m c := by unfold Dat.before; rw [if_pos (fetch0_4 pt)]; rfl

theorem body_sound :
    bodyPre m c ρ ⊢ wp frame (wpE (defs₀ (F := F)) 𝒱₀ (c : Thread nD τ) none) Set.univ
      (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) cc0_scratch1 cc0_scratch2)
      (fun _ => bodyPost m c ρ) := by
  unfold bodyPre Φ₀ start opening credit Dat.owesAt Pipeline.owesWithin
  rw [show (dats m ρ 0 c).owed pt.castSucc = owed0 c from rfl]
  simp only [before_0, before_1, before_2, before_3, before_4]
  iintro ⟨⟨⟨⟨%K, #HR, Hp, ⟨T1, T3, T4⟩, As, Ar, Ts, Tr⟩, ⟨Hc, Cr⟩, #HL⟩, ⟨%f, Hscr⟩⟩, Ho, ⟨%d0, %g0, %h0, hX⟩, ⟨%d1, %g1, %h1, hR⟩, ⟨%d2, %g2, %h2, hI⟩,
    ⟨%d3, %g3, %h3, hE⟩, ⟨%d4, %g4, %h4, hW⟩, ⟨%d5, %g5, %h5, hO⟩⟩
  subst h0 h1 h2 h3 h4
  icases Ho with ⟨%W, %hW, HO⟩
  ihave HK := (kits (F := F) c) $$ [As Ar Ts Tr Cr]
  · isplitl [As]; · iexact As
    isplitl [Ar]; · iexact Ar
    isplitl [Ts]; · iexact Ts
    isplitl [Tr] <;> iassumption
  iapply (body_run m K c f W g5) $$ [] Hp T1 T3 T4 Hc HK Hscr HO hX hR hI hE hW hO
  · unfold shared; isplitl; · iexact HR
    iexact HL
  iintro Hscr HF Hv HO hX hR hI hE hW hO
  unfold bodyPost Φ₁ Dat.owesAt Pipeline.owesWithin owing
  icases HO with ⟨%W', HO⟩
  isplitl [Hscr HF Hv]
  · isplitl [Hscr]; · iexact Hscr
    isplitl [HF] <;> iassumption
  isplitl [HO]
  · iexists W'
    isplitr; · ipureintro; exact fun _ _ => Or.inl trivial
    iexact HO
  isplitl [hX]; · iexists _; isplitr; · (ipureintro; rfl)
                  iexact hX
  isplitl [hR]; · iexists _; isplitr; · (ipureintro; rfl)
                  iexact hR
  isplitl [hI]; · iexists _; isplitr; · (ipureintro; rfl)
                  iexact hI
  isplitl [hE]; · iexists _; isplitr; · (ipureintro; rfl)
                  iexact hE
  isplitl [hW]; · iexists _; isplitr; · (ipureintro; rfl)
                  iexact hW
  iexists _; isplitr; · (ipureintro; rfl)
  iexact hO

set_option maxRecDepth 20000 in
/-- What the pipeline asks of the body on device `c`. -/
theorem body_ok : BodyObligation (dats (F := F) m ρ 0 c) (defs₀ (F := F)) 𝒱₀ () Set.univ := fun t => by
  rw [only_pt t, bigSep_W0, bigSep_W0]
  simp only [owns_whole]
  exact body_sound m c ρ

/-! ## Dealing the exchange's state out -/

theorem own_sems : Pipeline.OwnSemFacts cfg0.spec osem := by decide

theorem share_full (w : Fin cfg0.W) : (dats m ρ 0 c).share w = fullShare := by unfold Dat.share; split <;> rfl

theorem kcell_inj : Function.Injective kcell := by
  rintro ⟨c, k⟩ ⟨c', k'⟩ h
  have h1 : c = c' := congrArg (fun g : GSem nD τ sig => g.1.1) h
  have h2 : role (csem k) = role (csem k') := congrArg (fun g : GSem nD τ sig => role g.2) h
  rw [role_csem, role_csem] at h2
  rw [h1, Option.some.inj h2]
def exchCells : Finset (GSem nD τ sig) := Finset.univ.map ⟨kcell, kcell_inj⟩

/-- The duties at a device's own cells: three at its barrier, one at each send and receive cell. -/
abbrev Duty : Type := Fin 3 ⊕ KO
abbrev dutyAt : Duty → KC × Fin 8
  | .inl j => (.inl (), (![1, 3, 4] : Fin 3 → Fin 8) j)
  | .inr o => (.inr o, 0)
theorem dutyAt_inj : Function.Injective dutyAt := by decide
abbrev tokOf (cd : Dev nD × Duty) : GSem nD τ sig × ℕ × Fin 8 := (kcell (cd.1, (dutyAt cd.2).1), 0, (dutyAt cd.2).2)
theorem tokOf_inj : Function.Injective tokOf := by
  rintro ⟨c, t⟩ ⟨c', t'⟩ h
  have h1 := kcell_inj (congrArg Prod.fst h)
  have h2 : (dutyAt t).2 = (dutyAt t').2 := congrArg (fun x : GSem nD τ sig × ℕ × Fin 8 => x.2.2) h
  exact Prod.ext (congrArg (fun x : Dev nD × KC => x.1) h1) (dutyAt_inj (Prod.ext (congrArg (fun x : Dev nD × KC => x.2) h1) h2))
def exchToks : Finset (GSem nD τ sig × ℕ × Fin 8) := Finset.univ.map ⟨tokOf, tokOf_inj⟩

def u₀ : UU := (initOf (Pipeline.cells cfgs cellOf_inj) (Pipeline.launchToks cfgs cellOf_inj), initOf exchCells exchToks)

/-- The tokens of the duties at device `c`'s own cells. -/
def ownToks : sProp 𝕄 :=
  iprop((dutyTok ER (barCell c) 0 1 ∗ dutyTok ER (barCell c) 0 3 ∗ dutyTok ER (barCell c) 0 4)
    ∗ (bigSep Finset.univ fun k => dutyTok ER (sendCell c k) 0 0) ∗ bigSep Finset.univ fun k => dutyTok ER (recvCell c k) 0 0)

def G : sProp 𝕄 :=
  iprop((bigSep Finset.univ fun k : KC => roundState ER (exch m) (kcell (c, k)) 0)
    ∗ (bigSep Finset.univ fun k : KC => iprop(atPos ER (kcell (c, k)) 0 ∅ 0 ∗ reached ER (kcell (c, k)) 0)) ∗ ownToks c)
def G' : sProp 𝕄 := iprop(∃ K, records m K ∗ opening c)

theorem fin3 (Φ : Fin 3 → sProp 𝕄) : bigSep Finset.univ Φ = iprop(Φ 0 ∗ Φ 1 ∗ Φ 2) := bigSep_univ_eq_bigSepL [0, 1, 2] (by decide) (by decide) Φ
theorem unit1 (Φ : Unit → sProp 𝕄) : bigSep Finset.univ Φ = Φ () := bigSep_univ_eq_bigSepL [()] (by decide) (by decide) Φ

theorem by_cell (Φ : KC → sProp 𝕄) : bigSep Finset.univ Φ
    = iprop(Φ (.inl ()) ∗ (bigSep Finset.univ fun k => Φ (.inr (.inl k))) ∗ bigSep Finset.univ fun k => Φ (.inr (.inr k))) := by
  rw [bigSep_univ_sum, bigSep_univ_sum, unit1]; rfl
theorem by_copy (Φ : KO → sProp 𝕄) : bigSep Finset.univ Φ
    = iprop((bigSep Finset.univ fun k => Φ (.inl k)) ∗ bigSep Finset.univ fun k => Φ (.inr k)) := by
  rw [bigSep_univ_sum]; rfl

theorem fund : BI.own (ER (initOf exchCells exchToks)) ⊢ (|==> bigSep Finset.univ (G m) : sProp 𝕄) := by
  have hX (Φ : GSem nD τ sig → sProp 𝕄) : bigSep exchCells Φ = bigSep Finset.univ fun c : Dev nD => bigSep Finset.univ fun k : KC => Φ (kcell (c, k)) := by
    unfold exchCells; rw [bigSep_map, bigSep_univ_prod]; rfl
  have hT : bigSep exchToks (fun x => (dutyTok ER x.1 x.2.1 x.2.2 : sProp 𝕄)) = bigSep Finset.univ fun c : Dev nD => ownToks c := by
    unfold exchToks; rw [bigSep_map, bigSep_univ_prod]
    exact bigSep_congr fun c _ => by unfold ownToks; rw [bigSep_univ_sum, bigSep_univ_sum, fin3]; rfl
  iintro HX
  imod (Rounds.fund ER (exch m) exchCells exchToks) $$ HX with ⟨Hst, Hr, Hat, Htok⟩
  imodintro
  ihave Hst := (Entails.of_eq (hX fun g => roundState ER (exch m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem bar_sem : (unscopedSems0 c : sProp 𝕄) = semVal (barCell c) 0 := by
  unfold unscopedSems0; rw [bigSep_eq_bigSepL_of_eq [SemLoc.reg barS] (by decide) (by decide)]; rfl

theorem copy_sems : (Pipeline.ownSems0 (Ix := Unit) (Name := ℕ) (U := UU) (Lvl := ℕ) (Val := Elt F) (τ := τ) osem c : sProp 𝕄)
    = bigSep Finset.univ (finished c) := by
  unfold Pipeline.ownSems0 finished; rw [bigSep_univ_sum, bigSep_sep']; rfl

theorem all_sems :
    iprop(Pipeline.ownSems0 (Ix := Unit) (Name := ℕ) (U := UU) (Lvl := ℕ) (Val := Elt F) (τ := τ) osem c ∗ unscopedSems0 c)
      ⊢ (bigSep Finset.univ fun k : KC => semVal (kcell (c, k)) 0 : sProp 𝕄) := by
  rw [bar_sem, by_cell]
  unfold Pipeline.ownSems0
  rw [by_copy]
  iintro ⟨H, HB⟩
  isplitl [HB]; · iexact HB
  iexact H

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exch m) κ (kcell (c, k))))
          ∗ (bigSep Finset.univ fun k => iprop(atPos ER (kcell (c, k)) 0 ∅ 0 ∗ reached ER (kcell (c, k)) 0)) ∗ ownToks c) := by
  unfold G
  iintro ⟨Hos, Hus, Hst, Hat, Htok⟩
  ihave Hv := (all_sems (F := F) c) $$ [Hos Hus]
  · isplitl [Hos] <;> iassumption
  imod (show iprop((bigSep Finset.univ fun k : KC => semVal (kcell (c, k)) 0) ∗ bigSep Finset.univ fun k : KC => roundState ER (exch m) (kcell (c, k)) 0)
      ⊢ (|={Set.univ}=> bigSep Finset.univ fun k => iprop(∃ κ : ℕ, cellInv ER (exch m) κ (kcell (c, k))) : sProp 𝕄) from by
        rw [← bigSep_sep']
        exact (bigSep_mono fun k _ => (Rounds.body_intro ER (exch m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A table of one entry per device and copy, dealt by the copies' masks. -/
def across : Dev nD × Fin 14 ≃ Dev nD × Fin 14 :=
  ⟨fun p => (nbr p.1 (mask p.2), p.2), fun p => (nbr p.1 (mask p.2), p.2), fun p => by simp only [nbr_nbr], fun p => by simp only [nbr_nbr]⟩

/-- Every token to the device that pays the duty. -/
theorem toks_dealt : (bigSep Finset.univ fun c : Dev nD => (ownToks c : sProp 𝕄)) ⊢ bigSep Finset.univ fun c : Dev nD =>
    iprop((dutyTok ER (barCell (nbr c 1)) 0 1 ∗ dutyTok ER (barCell (nbr c 3)) 0 3 ∗ dutyTok ER (barCell (nbr c 4)) 0 4)
      ∗ (bigSep Finset.univ fun k => dutyTok ER (sendCell c k) 0 0) ∗ bigSep Finset.univ fun k => dutyTok ER (recvCell (nbr c (mask k)) k) 0 0) := by
  unfold ownToks
  simp only [bigSep_sep']
  rw [bigSep_univ_equiv (pairing 1) (fun c : Dev nD => (dutyTok ER (barCell c) 0 1 : sProp 𝕄)),
    bigSep_univ_equiv (pairing 3) (fun c : Dev nD => (dutyTok ER (barCell c) 0 3 : sProp 𝕄)),
    bigSep_univ_equiv (pairing 4) (fun c : Dev nD => (dutyTok ER (barCell c) 0 4 : sProp 𝕄)),
    ← bigSep_univ_prod (fun p : Dev nD × Fin 14 => (dutyTok ER (recvCell p.1 p.2) 0 0 : sProp 𝕄)),
    bigSep_univ_equiv across (fun p : Dev nD × Fin 14 => (dutyTok ER (recvCell p.1 p.2) 0 0 : sProp 𝕄)), bigSep_univ_prod]
  exact Entails.refl _

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem positions : (bigSep Finset.univ fun k : KC => (atPos ER (kcell (c, k)) 0 ∅ 0 : sProp 𝕄))
    = iprop(atPos ER (barCell c) 0 ∅ 0 ∗ (bigSep Finset.univ fun k => atPos ER (sendCell c k) 0 ∅ 0) ∗ bigSep Finset.univ fun k => atPos ER (recvCell c k) 0 ∅ 0) := by
  rw [by_cell]

theorem regroup :
    (bigSep Finset.univ fun c : Dev nD => iprop((bigSep Finset.univ fun k => iprop(∃ κ : ℕ, cellInv ER (exch m) κ (kcell (c, k))))
          ∗ (bigSep Finset.univ fun k => iprop(atPos ER (kcell (c, k)) 0 ∅ 0 ∗ reached ER (kcell (c, k)) 0)) ∗ ownToks c) : sProp 𝕄)
      ⊢ bigSep Finset.univ (G' m) := by
  rw [bigSep_sep', bigSep_sep', ← bigSep_univ_prod (fun ck : Dev nD × KC => iprop(∃ κ : ℕ, cellInv ER (exch m) κ (kcell ck))),
    bigSep_congr (s := Finset.univ) (fun (c : Dev nD) _ => bigSep_sep' Finset.univ (fun k : KC => (atPos ER (kcell (c, k)) 0 ∅ 0 : sProp 𝕄)) (fun k => reached ER (kcell (c, k)) 0)),
    bigSep_sep', ← bigSep_univ_prod (fun ck : Dev nD × KC => (reached ER (kcell ck) 0 : sProp 𝕄))]
  iintro ⟨HI, ⟨Hat, #HR⟩, Htok⟩
  ihave HK := (BI.bigSep_exists_pi Finset.univ (fun (ck : Dev nD × KC) (κ : ℕ) => (cellInv ER (exch m) κ (kcell ck) : sProp 𝕄))) $$ HI
  icases HK with ⟨%K, #HI⟩
  ihave Htk := (toks_dealt (F := F)) $$ Htok
  ihave Hall := (Entails.of_eq (bigSep_sep' Finset.univ (fun c : Dev nD => (bigSep Finset.univ fun k : KC => (atPos ER (kcell (c, k)) 0 ∅ 0 : sProp 𝕄)))
    (fun c => iprop((dutyTok ER (barCell (nbr c 1)) 0 1 ∗ dutyTok ER (barCell (nbr c 3)) 0 3 ∗ dutyTok ER (barCell (nbr c 4)) 0 4)
      ∗ (bigSep Finset.univ fun k => dutyTok ER (sendCell c k) 0 0) ∗ bigSep Finset.univ fun k => dutyTok ER (recvCell (nbr c (mask k)) k) 0 0))).symm) $$ [Hat Htk]
  · isplitl [Hat] <;> iassumption
  iapply (with_records (R := records m K) (Φ := fun c => iprop((bigSep Finset.univ fun k : KC => atPos ER (kcell (c, k)) 0 ∅ 0)
      ∗ (dutyTok ER (barCell (nbr c 1)) 0 1 ∗ dutyTok ER (barCell (nbr c 3)) 0 3 ∗ dutyTok ER (barCell (nbr c 4)) 0 4)
      ∗ (bigSep Finset.univ fun k => dutyTok ER (sendCell c k) 0 0) ∗ bigSep Finset.univ fun k => dutyTok ER (recvCell (nbr c (mask k)) k) 0 0)) fun c _ => by
    unfold G' opening
    rw [positions]
    iintro ⟨HR, ⟨Hb, Hs, Hv⟩, Tb, Ts, Tr⟩
    iexists K
    isplitl [HR]; · iexact HR
    isplitl [Hb]; · iexact Hb
    isplitl [Tb]; · iexact Tb
    isplitl [Hs]; · iexact Hs
    isplitl [Hv]; · iexact Hv
    isplitl [Ts] <;> iassumption)
  isplitr
  · unfold records; isplitl; · iexact HI
    iexact HR
  · iexact Hall

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem owedL_sum (l : List (Fin 14)) : owedL c l = (l.map fun k => (tallyAt (recvCell (nbr c (mask k)) k) () N : CellTallies nD τ sig Unit)).sum := by
  induction l with
  | nil => rfl
  | cons k l ih => rw [owedL, List.map_cons, List.sum_cons, ih, add_comm]

theorem owed_all : owedL c allCopies = ∑ k : Fin 14, (tallyAt (recvCell (nbr c (mask k)) k) () N : CellTallies nD τ sig Unit) := by
  rw [owedL_sum, Fin.sum_univ_def]

theorem credits : (Pipeline.launchCred owed0 c : sProp 𝕄) ⊢ credit c := by
  have e : (owed0 : Dev nD → CellTallies nD τ sig Unit) = fun d => (∑ k : Fin 14, (tallyAt (recvCell (nbr d (mask k)) k) () N : CellTallies nD τ sig Unit))
      + tallyAt (barCell (nbr d 4)) () 1 + tallyAt (barCell (nbr d 3)) () 1 + tallyAt (barCell (nbr d 1)) () 1 := by
    funext d; unfold owed0; rw [owed_all]
  have h3 : (tallyAt (barCell c) () 3 : CellTallies nD τ sig Unit) = tallyAt (barCell c) () 1 + tallyAt (barCell c) () 1 + tallyAt (barCell c) () 1 := by
    unfold tallyAt; rw [← tallyOn_add, ← tallyOn_add, ← Finsupp.single_add, ← Finsupp.single_add]
  have hb (s : Fin 8) : (Pipeline.launchCred (fun d => tallyAt (barCell (nbr d s)) () 1) c : sProp 𝕄) ⊢ cred (tallyAt (barCell c) () 1) :=
    Pipeline.launchCred_tallyAt (SemLoc.reg barS) (nbr · s) (nbr · s) (nbr_nbr · s) (nbr_nbr · s) () 1 c
  have hc : (bigSep Finset.univ fun k : Fin 14 => (Pipeline.launchCred (fun d => tallyAt (recvCell (nbr d (mask k)) k) () N) c : sProp 𝕄))
      ⊢ bigSep Finset.univ fun k => cred (tallyAt (recvCell c k) () N) :=
    bigSep_mono fun k _ => Pipeline.launchCred_tallyAt (SemLoc.dma (recvS k)) (nbr · (mask k)) (nbr · (mask k)) (nbr_nbr · (mask k)) (nbr_nbr · (mask k)) () N c
  rw [e, Pipeline.launchCred_add, Pipeline.launchCred_add, Pipeline.launchCred_add, Pipeline.launchCred_sum]
  unfold credit
  rw [h3]
  iintro ⟨⟨⟨HC, H4⟩, H3⟩, H1⟩
  isplitl [H4 H3 H1]
  · iapply (cred_add _ _).2
    isplitl [H4 H3]
    · iapply (cred_add _ _).2
      isplitl [H4]; · iapply (hb 4); iexact H4
      iapply (hb 3); iexact H3
    · iapply (hb 1); iexact H1
  · iapply hc
    iexact HC

/-! ## Entering and leaving the kernel -/

theorem start_intro :
    iprop(Pipeline.unscopedRestP Pipeline.Prefetch.none cfg0.spec c (fun b => m ((c : Thread nD τ).loc b)) ∗ levAts L lv
        ∗ Pipeline.launchCred owed0 c ∗ prngReg c (ρ c) ∗ G' m c)
      ⊢ |={Set.univ}=> iprop(start m c ∗ emp) := by
  iintro ⟨-, Hlev, Hcr, -, HG⟩
  ihave Hc := (credits (F := F) c) $$ Hcr
  imodintro
  unfold start G'
  isplitl
  · isplitl [HG]; · iexact HG
    isplitl [Hc]; · iexact Hc
    iexact Hlev
  · iempintro

theorem enter :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem leave :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, copy_sems, bar_sem]
  unfold Φ₁
  iintro ⟨Hr, HF, HB⟩
  isplitl [HB]; · iexact HB
  isplitl [HF]; · iexact HF
  iexists (full m c); iexact Hr

theorem waits : (levAts L lv : sProp 𝕄) ⊢ Pipeline.cellsWaits cfgs (dats m ρ) () 0 c :=
  Pipeline.cellsWaits_intro cfgs (dats m ρ) () 0 c fun w s t => by
    have h0 : levelOf (role (SemLoc.dma ((cfg0.win w).sem s))) = 0 := by fin_cases w <;> fin_cases s <;> decide
    rcases t with ⟨_ | _, ht⟩
    · exact mayWait_launch c _ h0
    · show _ ⊢ MayWait _ _ _ 0
      rw [MayWait_zero]
      iintro -
      iempintro

/-! ## The run -/

/-- What the pipeline leaves in each of its arrays on device `c`. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every counter at zero, for any float values: every fair execution on the eight devices ends, each
    device's arrays as `finalA` says and every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) EP defs₀ 𝒱₀ m ρ main
    (hmain := fun _ => rfl)
    (hbody := fun c => body_ok m c ρ) (hne := fun w => by fin_cases w <;> exact Nat.succ_pos _) (harr := arr_whole0) (hstage := stage_whole0)
    (hshare := fun c => share_full m c ρ) (hdistinct := winFacts0.arr_inj)
    (O₀ := owed0) (howed₀ := fun _ => rfl) (howedN := fun _ => rfl)
    (L := L) (lv := lv) (hL := L_of_ne) (hwaits := fun c => waits m c ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := fun c => start_intro m c ρ) (hin := fun c => enter m c ρ) (hout := fun c => leave m c ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Moe

end
-- ==== Proof.Row.lean ====
/-
The arithmetic of one token over the extended reals. It names no program: the kernel's result and the reference's are each read
down to the functions here, and the two meet in `out`.
-/
module

public import Idealize.ShloMosaic.Lib.Pointwise

@[expose] public section

noncomputable section

namespace Cert.Row

open Idealize.ShloMosaic

/-! ## The router -/

section Router

variable (x : Fin 256 → EReal) (R : Fin 256 → Fin 32 → EReal)

/-- A token's score for expert `e`. -/
def score (e : Fin 32) : EReal := ∑ d, x d * R d e

/-- The largest of its scores. -/
def top : EReal := Finset.univ.fold max ⊥ (score x R)

/-- The exponential of a score below the largest. -/
def weight (e : Fin 32) : EReal := Ideal.exp (score x R e - top x R)

/-- The share of expert `e` in the softmax of the scores. -/
def prob (e : Fin 32) : EReal := Ideal.div (weight x R e) (∑ e', weight x R e')

/-- The share of the expert the token is routed to, nothing if the index names none. -/
def gate (a : BitVec 32) : EReal := if h : a.toNat < 32 then prob x R ⟨a.toNat, h⟩ else 0

end Router

/-- The coercion of the reals goes through finite sums. -/
theorem coe_sum {ι : Type} (s : Finset ι) (f : ι → ℝ) : ((∑ i ∈ s, f i : ℝ) : EReal) = ∑ i ∈ s, (f i : EReal) := by
  classical
  induction s using Finset.induction_on with
  | empty => rfl
  | insert i s hi ih => rw [Finset.sum_insert hi, Finset.sum_insert hi, EReal.coe_add, ih]

/-- A fold of the maximum from the bottom is the value of one of its members. -/
theorem fold_max_mem {n : ℕ} (f : Fin (n + 1) → EReal) : ∃ i, Finset.univ.fold max ⊥ f = f i := by
  obtain ⟨i, -, h⟩ := Finset.exists_mem_eq_sup Finset.univ Finset.univ_nonempty f
  exact ⟨i, h⟩

/-- With a token and a router of real numbers the share is a real number, not negative. -/
theorem prob_real {x : Fin 256 → EReal} {R : Fin 256 → Fin 32 → EReal} (hx : ∀ d, ∃ r : ℝ, x d = r) (hR : ∀ d e, ∃ r : ℝ, R d e = r)
    (e : Fin 32) : 0 ≤ prob x R e ∧ prob x R e ≠ ⊤ := by
  choose xr hxr using hx
  choose Rr hRr using hR
  have hs (e : Fin 32) : score x R e = ((∑ d, xr d * Rr d e : ℝ) : EReal) := by
    rw [coe_sum]
    exact Finset.sum_congr rfl fun d _ => by rw [hxr, hRr, EReal.coe_mul]
  obtain ⟨i, hi⟩ := fold_max_mem (score x R)
  have hw (e : Fin 32) : weight x R e = ((Real.exp ((∑ d, xr d * Rr d e) - ∑ d, xr d * Rr d i) : ℝ) : EReal) := by
    unfold weight top
    rw [hi, hs, hs, ← EReal.coe_sub, Ideal.exp_coe]
  have hz : 0 < ∑ e' : Fin 32, Real.exp ((∑ d, xr d * Rr d e') - ∑ d, xr d * Rr d i) :=
    Finset.sum_pos (fun _ _ => Real.exp_pos _) Finset.univ_nonempty
  unfold prob
  rw [Finset.sum_congr rfl fun e' _ => hw e', hw, ← coe_sum, Ideal.div_coe hz.ne', ← EReal.coe_mul]
  exact ⟨EReal.coe_nonneg.2 (mul_nonneg (Real.exp_pos _).le (one_div_nonneg.2 hz.le)), EReal.coe_ne_top _⟩

theorem gate_real {x : Fin 256 → EReal} {R : Fin 256 → Fin 32 → EReal} (hx : ∀ d, ∃ r : ℝ, x d = r) (hR : ∀ d e, ∃ r : ℝ, R d e = r)
    (a : BitVec 32) : 0 ≤ gate x R a ∧ gate x R a ≠ ⊤ := by
  unfold gate
  split
  · exact prob_real hx hR _
  · exact ⟨le_rfl, EReal.zero_ne_top⟩

/-! ## The experts -/

/-- A number below 32 as a word is the word `a` exactly when it is `a`'s value. -/
theorem word_eq (e : Fin 32) (a : BitVec 32) : BitVec.ofNat 32 e.val = a ↔ e.val = a.toNat := by
  rw [← BitVec.toNat_inj, BitVec.toNat_ofNat, Nat.mod_eq_of_lt (by omega)]

/-- The one-hot selection summed: the share the index names. -/
theorem sum_select (x : Fin 256 → EReal) (R : Fin 256 → Fin 32 → EReal) (a : BitVec 32) :
    ∑ e : Fin 32, Scalar.select (IntOp.cmpi .eq (BitVec.ofNat 32 e.val) a) (prob x R e) 0 = gate x R a := by
  have hsel (e : Fin 32) : Scalar.select (IntOp.cmpi .eq (BitVec.ofNat 32 e.val) a) (prob x R e) 0
      = if e.val = a.toNat then prob x R e else 0 := by
    by_cases h : e.val = a.toNat
    · rw [if_pos h, (word_eq e a).2 h]; simp [Scalar.select, IntOp.cmpi]
    · rw [if_neg h]
      have : (BitVec.ofNat 32 e.val == a) = false := beq_eq_false_iff_ne.2 (mt (word_eq e a).1 h)
      simp [Scalar.select, IntOp.cmpi, this]
  rw [Finset.sum_congr rfl fun e _ => hsel e]
  unfold gate
  split
  · next h =>
    rw [Finset.sum_eq_single ⟨a.toNat, h⟩ (fun e _ he => if_neg fun h' => he (Fin.ext h')) (fun h => absurd (Finset.mem_univ _) h)]
    exact if_pos rfl
  · next h => exact Finset.sum_eq_zero fun e _ => if_neg fun (h' : e.val = a.toNat) => h (h' ▸ e.isLt)

/-- The mark of expert `e` at the index `a`: one where they agree, else zero. -/
def mark (a : BitVec 32) (e : Fin 32) : EReal := if e.val = a.toNat then 1 else 0

/-- The comparison, widened and read as a number, is the mark. -/
theorem sitofp_mark (a k : BitVec 32) (e : Fin 32) (hk : k = BitVec.ofNat 32 e.val) :
    (FloatOps.sitofp .f32 (BitVec.setWidth 32 (IntOp.cmpi .eq a k)) : Ideal .f32) = mark a e := by
  subst hk
  unfold mark
  by_cases h : e.val = a.toNat
  · rw [if_pos h, (word_eq e a).2 h]
    show (((BitVec.setWidth 32 (IntOp.cmpi .eq a a)).toInt : ℝ) : EReal) = 1
    simp [IntOp.cmpi]
  · rw [if_neg h]
    have hne : (a == BitVec.ofNat 32 e.val) = false := beq_eq_false_iff_ne.2 fun h' => h ((word_eq e a).1 h'.symm)
    show (((BitVec.setWidth 32 (IntOp.cmpi .eq a (BitVec.ofNat 32 e.val))).toInt : ℝ) : EReal) = 0
    simp [IntOp.cmpi, hne]

/-- One column of the experts' weights applied to the token, its features scaled by the share at the routed expert. -/
def expert (x : Fin 256 → EReal) (p : EReal) (a : BitVec 32) (W : Fin 32 → Fin 256 → EReal) (e : Fin 32) : EReal :=
  ∑ d, x d * (p * mark a e) * W e d

/-- A finite factor that is not negative comes out of a sum. -/
theorem mul_sum {ι : Type} (s : Finset ι) (f : ι → EReal) {p : EReal} (h0 : 0 ≤ p) (h1 : p ≠ ⊤) : ∑ i ∈ s, p * f i = p * ∑ i ∈ s, f i := by
  classical
  induction s using Finset.induction_on with
  | empty => simp
  | insert i s hi ih => rw [Finset.sum_insert hi, Finset.sum_insert hi, EReal.left_distrib_of_nonneg_of_ne_top h0 h1, ih]

/-- What a token's routed expert adds: nothing if the index names none. -/
def routed (x : Fin 256 → EReal) (p : EReal) (a : BitVec 32) (W : Fin 32 → Fin 256 → EReal) : EReal :=
  if h : a.toNat < 32 then p * ∑ d, x d * W ⟨a.toNat, h⟩ d else 0

/-- All 32 marked contributions together are the routed expert's. -/
theorem sum_expert (x : Fin 256 → EReal) {p : EReal} (h0 : 0 ≤ p) (h1 : p ≠ ⊤) (a : BitVec 32) (W : Fin 32 → Fin 256 → EReal) :
    ∑ e, expert x p a W e = routed x p a W := by
  have hz (e : Fin 32) (he : e.val ≠ a.toNat) : expert x p a W e = 0 :=
    Finset.sum_eq_zero fun d _ => by unfold mark; rw [if_neg he, mul_zero, mul_zero, zero_mul]
  unfold routed
  split
  · next h =>
    rw [Finset.sum_eq_single ⟨a.toNat, h⟩ (fun e _ he => hz e fun h' => he (Fin.ext h')) (fun h => absurd (Finset.mem_univ _) h),
      ← mul_sum _ _ h0 h1]
    refine Finset.sum_congr rfl fun d _ => ?_
    unfold mark
    rw [if_pos rfl, mul_one, mul_comm (x d) p, mul_assoc]
  · next h => exact Finset.sum_eq_zero fun e _ => hz e fun h' => h (h' ▸ e.isLt)

/-- One element of a token's result. -/
def out (x : Fin 256 → EReal) (R : Fin 256 → Fin 32 → EReal) (a : BitVec 32) (W : Fin 32 → Fin 256 → EReal) (S : Fin 256 → EReal) : EReal :=
  ∑ d, x d * S d + routed x (gate x R a) a W

/-- The exchange's slots, four experts in each: the device at mask `s` from `c` holds experts `4 (c xor s) + j`. -/
def expertAt (c : Fin 8) (p : Fin 8 × Fin 4) : Fin 32 := ⟨(c.val ^^^ p.1.val) % 8 * 4 + p.2.val, by omega⟩

theorem expertAt_bijective : ∀ c : Fin 8, Function.Bijective (expertAt c) := by decide +kernel

/-- Slot by slot, each expert is met once. -/
theorem sum_slots (c : Fin 8) (f : Fin 32 → EReal) : ∑ p : Fin 8 × Fin 4, f (expertAt c p) = ∑ e, f e :=
  (expertAt_bijective c).sum_comp f

/-- The order in which the slots are taken. -/
def order : List (Fin 8 × Fin 4) := [0, 1, 3, 4, 7, 5, 2, 6].flatMap fun s => [(s, 0), (s, 1), (s, 2), (s, 3)]

theorem sum_order (f : Fin 8 × Fin 4 → EReal) : (order.map f).sum = ∑ p, f p := by
  rw [← List.sum_toFinset f (show order.Nodup by decide)]
  exact congrArg (fun s => Finset.sum s f) (show order.toFinset = Finset.univ by decide +kernel)

end Cert.Row

end
-- ==== Proof.KernelValue.lean ====
/-
The kernel's result read at an index: each addend of device `c`'s sum is one expert's marked contribution, and the whole is the
function `Row.out` of the token's own row.
-/
module

public import proofs.«01_k».proof.Proof.Body
public import proofs.«01_k».proof.Proof.Row
public import Idealize.ShloMosaic.Lib.Pointwise
public import Idealize.ShloMosaic.Lib.Pipeline.ValueKit

@[expose] public section

set_option maxRecDepth 16384

noncomputable section

namespace Cert.Moe

open Cert.KernelIdeal Cert.KernelIdeal.Gen

open Idealize.ShloMosaic

/-- What one expert, numbered by the word `k`, adds to a device's result. -/
def part {F : FTy → Type} [FloatOps F] (v81 : FVec F S1024x256 .bf16) (v83 : IVec S1024x1 32) (v102 : FVec F S1024x1 .f32) (k : BitVec 32)
    (w : Vec F S1x1x256x512 .bf16) : FVec F S1024x512 .f32 :=
  matmul dot_S1024x256_S256x512_S1024x512_1_0_0_1_n_n none
    (mulf v81 (broadcastTo S1024x256 (truncf .bf16 (mulf v102 (sitofp .f32 (extui 32 (cmpi .eq v83 (broadcast S1024x1 k)) natLt_1_32)))
      bitsLt_bf16_f32) broadcasts_S1024x1_S1024x256))
    (shapeCast S256x512 w shapeCasts_S1x1x256x512_S256x512) (constant S1024x512 .f32 0x00000000#32)

/-- The addends of device `c` in the order taken: each the experts' part of one slot's one expert. -/
theorem outAt_eq {F : FTy → Type} [FloatOps F] (m : (ℓ : Loc nD τ sig) → Buf (Elt F) ℓ) (c : Dev nD) :
    outAt m c = Row.order.foldl (fun acc p => addf acc (part (k0_pay4 (xstg m c)) (k0_pay5 (istg m c)) (k0_pay6 (xstg m c) (istg m c) (rstg m c))
      (Scalar.addi (Scalar.muli (Scalar.xori (word c) (BitVec.ofNat 32 p.1.val)) 4#32) (BitVec.ofNat 32 p.2.val)) (chunk m c p.1 p.2)))
      (k0_pay7 (xstg m c) (wstg m c)) := rfl

/-- A sum of arrays taken in order, read at an index. -/
theorem foldl_apply {φ : FTy} {s : Shape} {ι : Type} (f : ι → FVec Ideal s φ) (i : s.Idx) (l : List ι) (a : FVec Ideal s φ) :
    l.foldl (fun acc p => addf acc (f p)) a i = (a i + (l.map fun p => f p i).sum : EReal) := by
  induction l generalizing a with
  | nil => exact (add_zero (a i : EReal)).symm
  | cons p l ih => exact (ih _).trans (add_assoc (a i : EReal) _ _)

/-- One expert's addend at an index. -/
theorem part_apply (v81 : FVec Ideal S1024x256 .bf16) (v83 : IVec S1024x1 32) (v102 : FVec Ideal S1024x1 .f32) (k : BitVec 32)
    (w : Vec Ideal S1x1x256x512 .bf16) (i : Fin 1024) (h : Fin 512) (e : Fin 32) (hk : k = BitVec.ofNat 32 e.val) :
    part v81 v83 v102 k w (ix2 i h)
      = (∑ d : Fin 256, v81 (ix2 i d) * (v102 (ix2 i 0) * Row.mark (v83 (ix2 i 0)) e) * w (ix4 0 0 d h) : EReal) := by
  pointwise [part]
  rw [Row.sitofp_mark _ _ e hk]

theorem bits_bot : Ideal.ofBits .f32 0xFF800000#32 = ⊥ := by simp [Ideal.ofBits, Ideal.ieee]

/-- A token's share of the expert it is routed to. -/
theorem pay6_apply (x : Vec Ideal S1024x256 .f32) (a : Vec Ideal S1024x1 .i32) (R : Vec Ideal S256x32 .f32) (i : Fin 1024) :
    k0_pay6 x a R (ix2 i 0) = (Row.gate (fun d => x (ix2 i d)) (fun d e => R (ix2 d e)) (a (ix2 i 0)) : EReal) := by
  pointwise [k0_pay6, k0_pay3, k0_pay5]
  rw [bits_bot]
  exact Row.sum_select _ _ _

/-- The shared product. -/
theorem pay7_apply (x : Vec Ideal S1024x256 .f32) (w : Vec Ideal S256x512 .f32) (i : Fin 1024) (h : Fin 512) :
    k0_pay7 x w (ix2 i h) = (∑ d : Fin 256, x (ix2 i d) * w (ix2 d h) : EReal) := by
  pointwise [k0_pay7, k0_pay3]

theorem pay4_apply (x : Vec Ideal S1024x256 .f32) (i : Fin 1024) (d : Fin 256) : k0_pay4 x (ix2 i d) = x (ix2 i d) := by
  pointwise [k0_pay4, k0_pay3]

theorem pay5_apply (a : Vec Ideal S1024x1 .i32) (i : Fin 1024) : k0_pay5 (F := Ideal) a (ix2 i 0) = a (ix2 i 0) := by
  pointwise [k0_pay5]

theorem pay2_apply (x : Vec Ideal S4x256x512 .f32) (j : Fin 4) (d : Fin 256) (h : Fin 512) : k0_pay2 x (ix4 0 j d h) = x (ix3 j d h) := by
  pointwise [k0_pay2]

variable (m : (ℓ : Loc nD τ sig) → Buf (Elt Ideal) ℓ) (c : Dev nD)

theorem index_0 : win0_0.index (0 : Fin 1) = ![0, 0] := by decide +kernel

theorem index_1 : win0_1.index (0 : Fin 1) = ![0, 0] := by decide +kernel

theorem index_2 : win0_2.index (0 : Fin 1) = ![0, 0] := by decide +kernel

theorem index_3 : win0_3.index (0 : Fin 1) = ![0, 0, 0] := by decide +kernel

theorem index_4 : win0_4.index (0 : Fin 1) = ![0, 0] := by decide +kernel

theorem xstg_apply (i : Fin 1024) (d : Fin 256) : xstg m c (ix2 i d) = m ((c.tc : Thread nD τ).loc main_arg0) (ix2 i d) := by
  blk_ext [xstg, index_0]

theorem rstg_apply (d : Fin 256) (e : Fin 32) : rstg m c (ix2 d e) = m ((c.tc : Thread nD τ).loc main_arg1) (ix2 d e) := by
  blk_ext [rstg, index_1]

theorem istg_apply (i : Fin 1024) : istg m c (ix2 i 0) = m ((c.tc : Thread nD τ).loc main_arg2) (ix2 i 0) := by
  blk_ext [istg, index_2]

theorem estg_apply (j : Fin 4) (d : Fin 256) (h : Fin 512) : estg m c (ix3 j d h) = m ((c.tc : Thread nD τ).loc main_arg3) (ix3 j d h) := by
  blk_ext [estg, index_3]

theorem wstg_apply (d : Fin 256) (h : Fin 512) : wstg m c (ix2 d h) = m ((c.tc : Thread nD τ).loc main_arg4) (ix2 d h) := by
  blk_ext [wstg, index_4]

/-- Slot `s` holds, at place `j`, the weights the device at mask `s` was launched with at `j`. -/
theorem chunk_apply (s : Fin 8) (j : Fin 4) (d : Fin 256) (h : Fin 512) :
    chunk m c s j (ix4 0 0 d h) = m ((nbr c s).tc.loc main_arg3) (ix3 j d h) := by
  have hi : ((chunkRect s j).toLoadRect.idx (ix4 0 0 d h) : S8x4x256x512.Idx) = ix4 s j d h := by
    funext a
    apply Fin.ext
    match a with
    | ⟨0, _⟩ => show s.val + 1 * 0 = s.val; omega
    | ⟨1, _⟩ => show j.val + 1 * 0 = j.val; omega
    | ⟨2, _⟩ => show 0 + 1 * d.val = d.val; omega
    | ⟨3, _⟩ => show 0 + 1 * h.val = h.val; omega
  have hu : unslot (ix4 s j d h) = ix4 0 j d h := by
    funext a
    match a with | ⟨0, _⟩ => rfl | ⟨1, _⟩ => rfl | ⟨2, _⟩ => rfl | ⟨3, _⟩ => rfl
  show full m c ((chunkRect s j).toLoadRect.idx (ix4 0 0 d h)) = _
  rw [hi]
  show k0_pay2 (estg m (nbr c s)) (unslot (ix4 s j d h)) = _
  rw [hu, pay2_apply, estg_apply]

/-! ## The result at an index -/

/-- The word a slot's expert is compared with is that expert's number. -/
theorem expert_word : ∀ (c : Dev nD) (p : Fin 8 × Fin 4),
    Scalar.addi (Scalar.muli (Scalar.xori (word c) (BitVec.ofNat 32 p.1.val)) 4#32) (BitVec.ofNat 32 p.2.val)
      = BitVec.ofNat 32 (Row.expertAt c p).val := by decide +kernel

/-- The device that is launched with expert `e`. -/
def holder (e : Fin 32) : Dev nD := ⟨e.val / 4, by show e.val / 4 < 8; omega⟩

/-- Its place among that device's experts. -/
def rank (e : Fin 32) : Fin 4 := ⟨e.val % 4, by omega⟩

/-- The expert met at slot `s`, place `j` is the one held by the device at mask `s`, at `j`. -/
theorem holder_expertAt : ∀ (c : Dev nD) (p : Fin 8 × Fin 4), holder (Row.expertAt c p) = nbr c p.1 ∧ rank (Row.expertAt c p) = p.2 := by
  decide +kernel

/-- With real tokens and router the kernel's result at an index is the arithmetic's of the token's row. -/
theorem outAt_apply (hx : ∀ i, ∃ r : ℝ, m ((c.tc : Thread nD τ).loc main_arg0) i = (r : EReal))
    (hR : ∀ i, ∃ r : ℝ, m ((c.tc : Thread nD τ).loc main_arg1) i = (r : EReal)) (i : Fin 1024) (h : Fin 512) :
    outAt m c (ix2 i h) = Row.out (fun d => m ((c.tc : Thread nD τ).loc main_arg0) (ix2 i d)) (fun d e => m ((c.tc : Thread nD τ).loc main_arg1) (ix2 d e))
      (m ((c.tc : Thread nD τ).loc main_arg2) (ix2 i 0)) (fun e d => m (((holder e).tc : Thread nD τ).loc main_arg3) (ix3 (rank e) d h))
      (fun d => m ((c.tc : Thread nD τ).loc main_arg4) (ix2 d h)) := by
  obtain ⟨h0, h1⟩ := Row.gate_real (x := fun d => m ((c.tc : Thread nD τ).loc main_arg0) (ix2 i d))
    (R := fun d e => m ((c.tc : Thread nD τ).loc main_arg1) (ix2 d e)) (fun d => hx _) (fun d e => hR _)
    (m ((c.tc : Thread nD τ).loc main_arg2) (ix2 i 0))
  rw [outAt_eq, foldl_apply, Row.sum_order]
  unfold Row.out
  rw [← Row.sum_expert _ h0 h1, ← Row.sum_slots c]
  refine congrArg₂ (· + ·) ?_ (Finset.sum_congr rfl fun p _ => ?_)
  · rw [pay7_apply]
    exact Finset.sum_congr rfl fun d _ => by rw [xstg_apply, wstg_apply]
  · rw [part_apply _ _ _ _ _ _ _ _ (expert_word c p), pay5_apply, pay6_apply, istg_apply]
    unfold Row.expert
    refine Finset.sum_congr rfl fun d _ => ?_
    have hw : (m (((holder (Row.expertAt c p)).tc : Thread nD τ).loc main_arg3) (ix3 (rank (Row.expertAt c p)) d h) : EReal)
        = m (((nbr c p.1).tc : Thread nD τ).loc main_arg3) (ix3 p.2 d h) := by
      rw [(holder_expertAt c p).2]
      exact congrArg (fun q : Dev nD => (m ((q.tc : Thread nD τ).loc main_arg3) (ix3 p.2 d h) : EReal)) (holder_expertAt c p).1
    rw [pay4_apply, chunk_apply]
    simp only [xstg_apply, rstg_apply, hw]

end Cert.Moe

end
-- ==== Proof.ReferenceValue.lean ====
/-
The reference's result read at an index. Its intermediate arrays are named here one by one; each is read down to scalars, and the
whole is the function `Row.out` of the token's own row.
-/
module

public import proofs.«01_k».proof.Proof.Gen.ReferenceIdeal
public import proofs.«01_k».proof.Proof.Row
public import Idealize.ShloMosaic.Lib.Pointwise
public import Idealize.ShloMosaic.Lib.ReduceAll

@[expose] public section

set_option maxRecDepth 16384

noncomputable section

namespace Cert.Reference

open Cert.ReferenceIdeal Cert.ReferenceIdeal.Gen

open Idealize.ShloMosaic

variable (x : FVec Ideal S8192x256 .f32) (R : FVec Ideal S256x32 .f32) (a : IVec S8192x1 32) (W : FVec Ideal S32x256x512 .f32) (S : FVec Ideal S256x512 .f32)

/-- The router's scores. -/
def scores : FVec Ideal S8192x32 .f32 := Host.dotGeneral dot_S8192x256_S256x32_S8192x32_1_0_0_1_n_n none x R

/-- Their exponentials, the largest of each row taken off first. -/
def exps : FVec Ideal S8192x32 .f32 :=
  Host.exp (subf (scores x R) (broadcastInDim S8192x32 ![0, 1] bcast_S8192x1_S8192x32_0_1 (broadcastInDim S8192x1 ![0] bcast_S8192_S8192x1_0
    (Host.reduce FloatOps.maximumf (scores x R) (constant S_ .f32 0xFF800000#32) reducesTo_S8192x32_S8192_d1 h_S_))))

/-- The softmax. -/
def probs : FVec Ideal S8192x32 .f32 :=
  Host.divf (exps x R) (broadcastInDim S8192x32 ![0, 1] bcast_S8192x1_S8192x32_0_1 (broadcastInDim S8192x1 ![0] bcast_S8192_S8192x1_0
    (Host.reduceAdd (exps x R) (constant S_ .f32 0x00000000#32) reducesTo_S8192x32_S8192_d1 h_S_)))

/-- The experts' numbers, one per token. -/
def idx : IVec S8192 32 := shapeCast _ a shapeCasts_S8192x1_S8192

/-- Where each token's own share lies: its row and its expert's column. -/
def pos : IVec S8192x2 32 :=
  concatenate S8192x2 1 [⟨S8192x1, (broadcastInDim S8192x1 ![0] bcast_S8192_S8192x1_0 (iotaInDim S8192 32 0))⟩,
    ⟨S8192x1, (broadcastInDim S8192x1 ![0] bcast_S8192_S8192x1_0 (idx a))⟩] concatenates_S8192x1_S8192x1_S8192x2_d1

/-- Which of these coordinates lie in the array. -/
def inside : IVec S8192x2 1 :=
  andi (cmpi .sge (pos a) (broadcastInDim S8192x2 ![] bcast_S_S8192x2 (constantI S_ 32 0#32)))
    (cmpi .sle (pos a) (broadcastInDim S8192x2 ![0, 1] bcast_S1x2_S8192x2_0_1 (broadcastInDim S1x2 ![1] bcast_S2_S1x2_1 (fun i => lit0 (S2.rowMajor i)))))

/-- Which tokens have both. -/
def mask : IVec S8192 1 := Host.reduce IntOp.andi (inside a) (constantI S_ 1 1#1) reducesTo_S8192x2_S8192_d1 h_S_

/-- Each token's share of its expert, zero where the index names none. -/
def gate : FVec Ideal S8192 .f32 :=
  select (mask a) (Host.gather gather_S8192x32_S8192x2_S8192_n_01_n_n_01_1_11 (probs x R) (pos a))
    (broadcastInDim S8192 ![] bcast_S_S8192 (constant S_ .f32 0x00000000#32))

/-- The experts' numbers as rows of the experts' array, a negative one counted from its end. -/
def row : IVec S8192x1 32 :=
  broadcastInDim S8192x1 ![0] bcast_S8192_S8192x1_0 (select (cmpi .slt (idx a) (broadcastInDim S8192 ![] bcast_S_S8192 (constantI S_ 32 0#32)))
    (addi (idx a) (broadcastInDim S8192 ![] bcast_S_S8192 (constantI S_ 32 32#32))) (idx a))

/-- Each token's expert. -/
def chosen : FVec Ideal S8192x256x512 .f32 := Host.gather gather_S32x256x512_S8192x1_S8192x256x512_12_0_n_n_0_1_1256512 W (row a)

theorem bits_bot : Ideal.ofBits .f32 0xFF800000#32 = ⊥ := by simp [Ideal.ofBits, Ideal.ieee]

/-- A token's exponential at an expert is the arithmetic's weight. -/
theorem exps_apply (n : Fin 8192) (e : Fin 32) :
    exps x R (ix2 n e) = (Row.weight (fun d => x (ix2 n d)) (fun d e => R (ix2 d e)) e : EReal) := by
  pointwise [exps, scores]
  rw [bits_bot]
  rfl

/-- A token's share of an expert is the arithmetic's. -/
theorem probs_apply (n : Fin 8192) (e : Fin 32) :
    probs x R (ix2 n e) = (Row.prob (fun d => x (ix2 n d)) (fun d e => R (ix2 d e)) e : EReal) := by
  pointwise [probs]
  simp only [exps_apply]
  rfl

/-- The positions' first column is the token's own number … -/
theorem pos_token (n : Fin 8192) : pos a (ix2 n 0) = BitVec.ofNat 32 n.val := by
  pointwise [pos]

/-- … and the second the expert's. -/
theorem pos_expert (n : Fin 8192) : pos a (ix2 n 1) = a (ix2 n 0) := by
  pointwise [pos, idx]

/-- A token's bit is that of both its coordinates. -/
theorem mask_apply (n : Fin 8192) : mask a (ix1 n) = IntOp.andi (inside a (ix2 n 0)) (inside a (ix2 n 1)) := by
  pointwise [mask]
  show IntOp.andi (inside a (ix2 n 0)) (IntOp.andi (inside a (ix2 n 1)) 1#1) = _
  rw [show IntOp.andi (inside a (ix2 n 1)) 1#1 = inside a (ix2 n 1) from BitVec.and_allOnes]

/-- The gather of one share per token: at the positions read signed and clamped. -/
theorem gather_probs (p : FVec Ideal S8192x32 .f32) (q : IVec S8192x2 32) (n : Fin 8192) :
    Host.gather gather_S8192x32_S8192x2_S8192_n_01_n_n_01_1_11 p q (ix1 n)
      = p (ix2 ⟨min (q (ix2 n 0)).toInt.toNat 8191, by omega⟩ ⟨min (q (ix2 n 1)).toInt.toNat 31, by omega⟩) := by
  unfold Host.gather
  congr 1
  funext b
  apply Fin.ext
  have hb (b : Fin 2) : b ∈ gather_S8192x32_S8192x2_S8192_n_01_n_n_01_1_11.startIndexMap := by
    match b with
    | 0 => exact List.mem_cons_self
    | 1 => exact List.mem_cons_of_mem _ List.mem_cons_self
  have hs (b : Fin 2) : (gather_S8192x32_S8192x2_S8192_n_01_n_n_01_1_11.siIdx (ix1 n)
      ⟨List.idxOf b gather_S8192x32_S8192x2_S8192_n_01_n_n_01_1_11.startIndexMap, List.idxOf_lt_length_iff.2 (hb b)⟩ : S8192x2.Idx) = ix2 n b := by
    funext k
    apply Fin.ext
    match b, k with
    | 0, ⟨0, _⟩ => rfl
    | 0, ⟨1, _⟩ => rfl
    | 1, ⟨0, _⟩ => rfl
    | 1, ⟨1, _⟩ => rfl
  have hg (b : Fin 2) : (gather_S8192x32_S8192x2_S8192_n_01_n_n_01_1_11.operandIdx (ix1 n) q b).val
      = min (q (ix2 n b)).toInt.toNat (S8192x32.size b - 1) := by
    show gather_S8192x32_S8192x2_S8192_n_01_n_n_01_1_11.start (ix1 n) q b + gather_S8192x32_S8192x2_S8192_n_01_n_n_01_1_11.batchCoord (ix1 n) b
      + gather_S8192x32_S8192x2_S8192_n_01_n_n_01_1_11.offCoord (ix1 n) b = _
    rw [GatherDims.batchCoord_eq_zero _ _ _ List.not_mem_nil,
      GatherDims.offCoord_eq_zero _ _ _ (fun h => ((GatherDims.mem_sKept _ _).mp h).1 (hb b)), Nat.add_zero]
    unfold GatherDims.start
    rw [dif_pos (hb b), hs b]
    match b with
    | 0 => rfl
    | 1 => rfl
  match b with
  | ⟨0, _⟩ => exact hg 0
  | ⟨1, _⟩ => exact hg 1

/-- The gather of one expert per token: at the row read signed and clamped. -/
theorem gather_chosen (q : IVec S8192x1 32) (n : Fin 8192) (d : Fin 256) (h : Fin 512) :
    Host.gather gather_S32x256x512_S8192x1_S8192x256x512_12_0_n_n_0_1_1256512 W q (ix3 n d h)
      = W (ix3 ⟨min (q (ix2 n 0)).toInt.toNat 31, by omega⟩ d h) := by
  unfold Host.gather
  congr 1
  funext b
  apply Fin.ext
  have h0 : (0 : Fin 3) ∈ gather_S32x256x512_S8192x1_S8192x256x512_12_0_n_n_0_1_1256512.startIndexMap := List.mem_singleton.2 rfl
  have hs : (gather_S32x256x512_S8192x1_S8192x256x512_12_0_n_n_0_1_1256512.siIdx (ix3 n d h)
      ⟨List.idxOf (0 : Fin 3) gather_S32x256x512_S8192x1_S8192x256x512_12_0_n_n_0_1_1256512.startIndexMap, List.idxOf_lt_length_iff.2 h0⟩ : S8192x1.Idx)
        = ix2 n 0 := by
    funext k
    apply Fin.ext
    match k with
    | ⟨0, _⟩ => rfl
    | ⟨1, _⟩ => rfl
  show gather_S32x256x512_S8192x1_S8192x256x512_12_0_n_n_0_1_1256512.start (ix3 n d h) q b
    + gather_S32x256x512_S8192x1_S8192x256x512_12_0_n_n_0_1_1256512.batchCoord (ix3 n d h) b
    + gather_S32x256x512_S8192x1_S8192x256x512_12_0_n_n_0_1_1256512.offCoord (ix3 n d h) b = _
  rw [GatherDims.batchCoord_eq_zero _ _ _ List.not_mem_nil, Nat.add_zero]
  unfold GatherDims.start
  obtain rfl | rfl | rfl : b = 0 ∨ b = 1 ∨ b = 2 := by
    match b with
    | ⟨0, _⟩ => exact .inl rfl
    | ⟨1, _⟩ => exact .inr (.inl rfl)
    | ⟨2, _⟩ => exact .inr (.inr rfl)
  · rw [GatherDims.offCoord_eq_zero _ _ _ (fun h => ((GatherDims.mem_sKept _ _).mp h).1 (List.mem_singleton.2 rfl)), Nat.add_zero, dif_pos h0]
    exact congrArg (fun k : S8192x1.Idx => min (q k).toInt.toNat 31) hs
  · rw [dif_neg (by decide), Nat.zero_add]
    rfl
  · rw [dif_neg (by decide), Nat.zero_add]
    rfl

/-- The row a token's index selects. -/
theorem row_apply (n : Fin 8192) :
    row a (ix2 n 0) = Scalar.select (IntOp.cmpi .slt (a (ix2 n 0)) 0#32) (IntOp.addi (a (ix2 n 0)) 32#32) (a (ix2 n 0)) := by
  pointwise [row, idx]

/-! ## Signed words against their values -/

/-- A word lies between zero and `k`, read signed, exactly when its value is at most `k`. -/
theorem word_between (w : BitVec 32) (k : ℕ) (hk : k < 2 ^ 31) :
    IntOp.andi (IntOp.cmpi .sge w 0#32) (IntOp.cmpi .sle w (BitVec.ofNat 32 k)) = BitVec.ofBool (decide (w.toNat ≤ k)) := by
  have hw : IntOp.cmpi .sge w 0#32 = BitVec.ofBool (decide (w.toNat < 2 ^ 31)) := by
    show BitVec.ofBool (BitVec.sle 0#32 w) = _
    refine congrArg _ (decide_eq_decide.2 ?_)
    rw [BitVec.toInt_zero, BitVec.toInt_eq_toNat_cond]
    split <;> omega
  have hw' : IntOp.cmpi .sle w (BitVec.ofNat 32 k) = BitVec.ofBool (decide (w.toInt ≤ k)) := by
    show BitVec.ofBool (BitVec.sle w (BitVec.ofNat 32 k)) = _
    refine congrArg _ (decide_eq_decide.2 ?_)
    rw [show (BitVec.ofNat 32 k).toInt = k from by rw [BitVec.toInt_eq_toNat_cond, BitVec.toNat_ofNat, Nat.mod_eq_of_lt (by omega)]; exact if_pos (by omega)]
  rw [hw, hw']
  have hi : w.toInt = if 2 * w.toNat < 2 ^ 32 then (w.toNat : ℤ) else w.toNat - (2 ^ 32 : ℕ) := BitVec.toInt_eq_toNat_cond w
  have hlt := w.isLt
  by_cases h : w.toNat ≤ k
  · rw [if_pos (by omega)] at hi
    rw [decide_eq_true h, decide_eq_true (show w.toNat < 2 ^ 31 by omega), decide_eq_true (show w.toInt ≤ k by omega)]
    rfl
  · rw [decide_eq_false h]
    by_cases h' : w.toNat < 2 ^ 31
    · rw [if_pos (by omega)] at hi
      rw [decide_eq_true h', decide_eq_false (show ¬ w.toInt ≤ k by omega)]
      rfl
    · rw [decide_eq_false h']
      cases decide (w.toInt ≤ (k : ℤ)) <;> rfl

/-- A small word reads the same signed and unsigned. -/
theorem toInt_small {w : BitVec 32} (h : w.toNat < 32) : w.toInt = w.toNat := by
  rw [BitVec.toInt_eq_toNat_cond, if_pos (by omega)]

/-- The token's own coordinate always lies in the array. -/
theorem inside_token (n : Fin 8192) : inside a (ix2 n 0) = 1#1 := by
  pointwise [inside]
  rw [pos_token, show lit0 (S2.rowMajor (ix1 0)) = 8191#32 from rfl, word_between _ _ (by norm_num), BitVec.toNat_ofNat,
    Nat.mod_eq_of_lt (by omega), decide_eq_true (by omega)]
  rfl

/-- The expert's does when the index is below 32. -/
theorem inside_expert (n : Fin 8192) : inside a (ix2 n 1) = BitVec.ofBool (decide ((a (ix2 n 0)).toNat ≤ 31)) := by
  pointwise [inside]
  rw [pos_expert, show lit0 (S2.rowMajor (ix1 1)) = 31#32 from rfl, word_between _ _ (by norm_num)]

/-- An index that names an expert is read as that expert's row. -/
theorem row_small (n : Fin 8192) (h : (a (ix2 n 0)).toNat < 32) : min (row a (ix2 n 0)).toInt.toNat 31 = (a (ix2 n 0)).toNat := by
  have hs : IntOp.cmpi .slt (a (ix2 n 0)) 0#32 = 0#1 := by
    show BitVec.ofBool (BitVec.slt (a (ix2 n 0)) 0#32) = _
    rw [BitVec.slt, toInt_small h, decide_eq_false (by rw [BitVec.toInt_zero]; omega)]
    rfl
  rw [row_apply, hs]
  show min (a (ix2 n 0)).toInt.toNat 31 = _
  rw [toInt_small h]
  omega

/-! ## The result at an index -/

/-- The share at the token's index, nothing if the index names no expert. -/
theorem gate_apply (n : Fin 8192) :
    gate x R a (ix1 n) = (Row.gate (fun d => x (ix2 n d)) (fun d e => R (ix2 d e)) (a (ix2 n 0)) : EReal) := by
  have h0 : gate x R a (ix1 n) = (Scalar.select (mask a (ix1 n)) (Host.gather gather_S8192x32_S8192x2_S8192_n_01_n_n_01_1_11 (probs x R) (pos a) (ix1 n)) 0 : EReal) := by
    pointwise [gate]
  rw [h0, mask_apply, inside_token, inside_expert]
  unfold Row.gate
  by_cases h : (a (ix2 n 0)).toNat < 32
  · rw [dif_pos h, decide_eq_true (by omega)]
    show Host.gather gather_S8192x32_S8192x2_S8192_n_01_n_n_01_1_11 (probs x R) (pos a) (ix1 n) = _
    have ht : (⟨min (pos a (ix2 n 0)).toInt.toNat 8191, by omega⟩ : Fin 8192) = n := by
      apply Fin.ext
      show min (pos a (ix2 n 0)).toInt.toNat 8191 = n.1
      rw [pos_token, BitVec.toInt_eq_toNat_cond, BitVec.toNat_ofNat, Nat.mod_eq_of_lt (by omega), if_pos (by omega)]
      omega
    have he : (⟨min (pos a (ix2 n 1)).toInt.toNat 31, by omega⟩ : Fin 32) = ⟨(a (ix2 n 0)).toNat, h⟩ := by
      apply Fin.ext
      show min (pos a (ix2 n 1)).toInt.toNat 31 = (a (ix2 n 0)).toNat
      rw [pos_expert, toInt_small h]
      omega
    rw [gather_probs, ht, he, probs_apply]
  · rw [dif_neg h, decide_eq_false (by omega)]
    rfl

/-- The reference's result. -/
def result : FVec Ideal S8192x512 .f32 :=
  addf (Host.dotGeneral dot_S8192x256_S256x512_S8192x512_1_0_0_1_n_n none x S)
    (mulf (broadcastInDim S8192x512 ![0, 1] bcast_S8192x1_S8192x512_0_1 (broadcastInDim S8192x1 ![0] bcast_S8192_S8192x1_0 (gate x R a)))
      (Host.dotGeneral dot_S8192x256_S8192x256x512_S8192x512_1_1_n_2_0_0 none x (chosen a W)))

/-- The reference's result at an index is the arithmetic's of the token's row. -/
theorem result_apply (n : Fin 8192) (h : Fin 512) :
    result x R a W S (ix2 n h) = (Row.out (fun d => x (ix2 n d)) (fun d e => R (ix2 d e)) (a (ix2 n 0)) (fun e d => W (ix3 e d h)) (fun d => S (ix2 d h)) : EReal) := by
  pointwise [result, chosen]
  rw [gate_apply]
  simp only [gather_chosen]
  unfold Row.out Row.routed
  split
  · next ha =>
    simp only [row_small a n ha]
  · next ha =>
    rw [Row.gate, dif_neg ha, zero_mul]

end Cert.Reference

end
-- ==== Proof.Meet.lean ====
/-
The kernel's result against the reference's: from arguments cut in blocks over the devices, each device's result is its block of
the reference's.
-/
module

public import proofs.«01_k».proof.Proof.Launch
public import proofs.«01_k».proof.Proof.KernelValue
public import proofs.«01_k».proof.Proof.ReferenceValue
public import proofs.«01_k».proof.Proof.Gen.Pre_finite_KernelIdeal
public import Idealize.ShloMosaic.Lib.Layout
public import Idealize.ShloMosaic.Lib.ReduceAll

@[expose] public section

set_option maxRecDepth 16384

noncomputable section

namespace Cert.Moe

open Cert.KernelIdeal Cert.KernelIdeal.Gen

open Idealize.ShloMosaic

/-! ## The output array after the run -/

/-- The result's array ends as the body leaves its window: the one grid point writes all of it. -/
theorem finalA_out (m : (ℓ : Loc nD τ sig) → Buf (Elt Ideal) ℓ) (ρ : Dev nD → PrngReg) (c : Dev nD) :
    finalA m ρ c (5 : Fin 6) = outAt m c := by
  refine (dats m ρ 0 c).arrAt_eq_of_after_last (5 : Fin 6) pt (by decide +kernel) _ fun j => ?_
  blk_simp
  rfl

/-! ## The precondition -/

/-- A value whose magnitude is below infinity is a real number. -/
theorem real_of_lt (v : EReal) (h : Ideal.cmp .olt (max v (-v)) (Ideal.ofBits .f32 0x7F800000#32) = 1#1) : ∃ r : ℝ, v = (r : EReal) := by
  have htop : Ideal.ofBits .f32 0x7F800000#32 = ⊤ := by simp [Ideal.ofBits, Ideal.ieee]
  rw [htop] at h
  have hlt : max v (-v) < ⊤ := by
    by_contra hn
    simp [Ideal.cmp, hn] at h
  refine ⟨v.toReal, (EReal.coe_toReal ?_ ?_).symm⟩
  · rintro rfl; simp at hlt
  · rintro rfl; simp at hlt

/-- Under the precondition a device's tokens and the router's weights are real numbers. -/
theorem reals (x : FVec Ideal S1024x256 .f32) (R : FVec Ideal S256x32 .f32) (a : IVec S1024x1 32) (W : FVec Ideal S4x256x512 .f32)
    (S : FVec Ideal S256x512 .f32)
    (h : Cert.Pre_finite_KernelIdeal.fn x R a W S = fun _ => 1#1) :
    (∀ i, ∃ r : ℝ, x i = (r : EReal)) ∧ ∀ i, ∃ r : ℝ, R i = (r : EReal) := by
  have : Subsingleton S_.Idx := ⟨fun a b => funext fun i => i.elim0⟩
  obtain ⟨h0, h1⟩ := IntOp.andi_eq_one.1 (congrFun h ix0)
  exact ⟨fun i => real_of_lt _ (Host.reduce_andi_all _ _ _ _ _ h0 i), fun i => real_of_lt _ (Host.reduce_andi_all _ _ _ _ _ h1 i)⟩

/-! ## The blocks -/

section Blocks

variable {α : Type}

/-- A row of device `c`'s block of a matrix cut by rows. -/
def rowOf (c : Fin 8) (i : Fin 1024) : Fin 8192 := ⟨c.val * 1024 + i.val, by omega⟩

/-- A block's row is that row of the whole. -/
theorem block_rows {n : ℕ} (c : Fin 8) (v : (⟨2, ![8192, n]⟩ : Shape).Idx → α) (h : Layout.Tiles ⟨2, ![1024, n]⟩ ⟨2, ![8192, n]⟩ 0 8)
    (i : Fin 1024) (d : Fin n) : Layout.block ⟨2, ![1024, n]⟩ ⟨2, ![8192, n]⟩ 0 8 c v h (ix2 i d) = v (ix2 (rowOf c i) d) := by
  refine congrArg v (funext fun b => Fin.ext ?_)
  match b with
  | ⟨0, _⟩ => rfl
  | ⟨1, _⟩ => rfl

/-- Expert `e` lies at its place in its holder's block. -/
theorem block_expert (v : (⟨3, ![32, 256, 512]⟩ : Shape).Idx → α) (h : Layout.Tiles ⟨3, ![4, 256, 512]⟩ ⟨3, ![32, 256, 512]⟩ 0 8)
    (e : Fin 32) (d : Fin 256) (l : Fin 512) :
    Layout.block ⟨3, ![4, 256, 512]⟩ ⟨3, ![32, 256, 512]⟩ 0 8 (holder e) v h (ix3 (rank e) d l) = v (ix3 e d l) := by
  refine congrArg v (funext fun b => Fin.ext ?_)
  match b with
  | ⟨0, _⟩ => exact Nat.div_add_mod' e.val 4
  | ⟨1, _⟩ => rfl
  | ⟨2, _⟩ => rfl

end Blocks

/-! ## The two results -/

/-- Each device's result is its block of the reference's. -/
theorem outAt_block (m : (ℓ : Loc nD τ sig) → Buf (Elt Ideal) ℓ) (x : FVec Ideal Cert.ReferenceIdeal.S8192x256 .f32)
    (R : FVec Ideal Cert.ReferenceIdeal.S256x32 .f32) (a : IVec Cert.ReferenceIdeal.S8192x1 32)
    (W : FVec Ideal Cert.ReferenceIdeal.S32x256x512 .f32) (S : FVec Ideal Cert.ReferenceIdeal.S256x512 .f32)
    (hm : ∀ c : Dev nD, m ((c.tc : Thread nD τ).loc main_arg0) = Layout.block ⟨2, ![1024, 256]⟩ ⟨2, ![8192, 256]⟩ 0 8 c x
      ∧ m ((c.tc : Thread nD τ).loc main_arg1) = R
      ∧ m ((c.tc : Thread nD τ).loc main_arg2) = Layout.block ⟨2, ![1024, 1]⟩ ⟨2, ![8192, 1]⟩ 0 8 c a
      ∧ m ((c.tc : Thread nD τ).loc main_arg3) = Layout.block ⟨3, ![4, 256, 512]⟩ ⟨3, ![32, 256, 512]⟩ 0 8 c W
      ∧ m ((c.tc : Thread nD τ).loc main_arg4) = S)
    (c : Dev nD) (hx : ∀ i, ∃ r : ℝ, m ((c.tc : Thread nD τ).loc main_arg0) i = (r : EReal))
    (hR : ∀ i, ∃ r : ℝ, m ((c.tc : Thread nD τ).loc main_arg1) i = (r : EReal)) :
    outAt m c = Layout.block ⟨2, ![1024, 512]⟩ ⟨2, ![8192, 512]⟩ 0 8 c (Cert.Reference.result x R a W S) := by
  funext j
  obtain ⟨i, h, rfl⟩ : ∃ (i : Fin 1024) (h : Fin 512), j = ix2 i h := ⟨j 0, j 1, (ix2_eta j).symm⟩
  rw [outAt_apply m c hx hR, block_rows]
  refine Eq.trans ?_ (Cert.Reference.result_apply x R a W S (rowOf c i) h).symm
  obtain ⟨h0, h1, h2, -, h4⟩ := hm c
  rw [h0, h1, h2, h4]
  have hW (e : Fin 32) (d : Fin 256) : (m (((holder e).tc : Thread nD τ).loc main_arg3) (ix3 (rank e) d h) : EReal) = W (ix3 e d h) := by
    rw [(hm (holder e)).2.2.2.1]
    exact block_expert W _ e d h
  simp only [block_rows, hW]

end Cert.Moe

end
-- ==== Proof.lean ====
/-
The claims, assembled. The kernel's run is proved once, in Proof/Launch.lean, for any float values: the frames of the kernel as
printed and of its reading over the extended reals are that run with the result dropped, and the value claim sets the result of the
same run beside the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Launch
public import proofs.«01_k».proof.Proof.Meet
public import Idealize.ShloMosaic.Adequacy
public import Idealize.ShloMosaic.Init

@[expose] public section

noncomputable section

namespace Cert.Proof

open Idealize.ShloMosaic Idealize.SL.Sem Cert.Kernel

/-- The frame of a run of the exchange, for any float values: each argument's array ends as it was launched, since the
    pipeline only reads it, and every counter ends at zero. -/
theorem kept {F : FTy → Type} [FloatOps F] (m : (ℓ : Loc Cert.KernelIdeal.nD Cert.KernelIdeal.τ Cert.KernelIdeal.sig) → Buf (Elt F) ℓ)
    (ρ : Dev Cert.KernelIdeal.nD → PrngReg) {r : PUnit × MemSt Cert.KernelIdeal.nD Cert.KernelIdeal.τ Cert.KernelIdeal.sig (Elt F)} (h : Moe.QC m ρ r)
    (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
    ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
    ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
    ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
    ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4) :=
  ⟨(h c (0 : Fin 6)).trans ((Moe.dats m ρ 0 c).arrAt_in (0 : Fin 6) rfl _), (h c (1 : Fin 6)).trans ((Moe.dats m ρ 0 c).arrAt_in (1 : Fin 6) rfl _),
    (h c (2 : Fin 6)).trans ((Moe.dats m ρ 0 c).arrAt_in (2 : Fin 6) rfl _), (h c (3 : Fin 6)).trans ((Moe.dats m ρ 0 c).arrAt_in (3 : Fin 6) rfl _),
    (h c (4 : Fin 6)).trans ((Moe.dats m ρ 0 c).arrAt_in (4 : Fin 6) rfl _)⟩

/-- The kernel's body table as printed and as read over the extended reals, at the bit patterns: one text, label by label. -/
theorem same_table : Cert.Kernel.defs (F := Bits) = Cert.KernelIdeal.defs (F := Bits) := by
  have h : Cert.Kernel.defs₀ (F := Bits) = Cert.KernelIdeal.defs₀ (F := Bits) := by
    unfold Cert.Kernel.defs₀ Cert.KernelIdeal.defs₀
    refine congrArg Defs.onTc (funext fun l => funext fun a => ?_)
    match l, a with
    | 0, (t, s) => rfl
    | ⟨_ + 1, h⟩, _ => exact absurd h (Nat.not_lt.2 (Nat.le_add_left _ _))
  exact congrArg (Pipeline.defs Cert.KernelIdeal.pcfgs) h

/-- The kernel as printed: the run at the bit patterns. -/
theorem frame_kernel : Cert.quiescent_Kernel := fun m ρ _ => by
  rw [same_table]
  show θ_run (Cert.KernelIdeal.defs (F := Bits)) (onTc (τ := Cert.KernelIdeal.τ) (Cert.KernelIdeal.main (F := Bits))) ⟨m, fun _ => 0, ρ⟩ _
  exact (θ_run Cert.KernelIdeal.defs _ _).mono (fun _ h => ⟨kept m ρ h.1, h.2⟩) (Moe.run_main (F := Bits) m ρ)

/-- The kernel over the extended reals. -/
theorem frame_ideal : Cert.quiescent_KernelIdeal := fun m ρ _ =>
  (θ_run Cert.KernelIdeal.defs _ _).mono (fun _ h => ⟨kept m ρ h.1, h.2⟩) (Moe.run_main (F := Ideal) m ρ)

/-- The reference is a straight line of host operations, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference compute one function: each device's result is its block of the reference's. -/
theorem same_value : Cert.algebraic_KernelIdeal_ReferenceIdeal_pre_finite_KernelIdeal := fun m g m' g' hpre hm =>
  ⟨Cert.Reference.result (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3))
      (m' (((0 : Dev Cert.ReferenceIdeal.nD).tc : Thread Cert.ReferenceIdeal.nD Cert.ReferenceIdeal.τ).loc Cert.ReferenceIdeal.main_arg4)),
    (θ_run Cert.KernelIdeal.defs _ _).mono (fun _ h c =>
        have hr := Moe.reals _ _ _ _ _ (hpre c)
        ⟨(h.1 c (5 : Fin 6)).trans ((Moe.finalA_out m g c).trans (Moe.outAt_block m _ _ _ _ _ hm c hr.1 hr.2)), kept m g h.1 c⟩)
      (Moe.run_main (F := Ideal) m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  frame_kernel, frame_ideal, fun m g _ => frame_ideal m g trivial, frame_reference, fun m g _ => frame_reference m g trivial, trivial, same_value⟩

end Cert.Proof

end
